-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v32)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v77_4)) (v1 : (c : Dev Cert.Kernel3Ideal.nD) → Buf (Elt Ideal) ((c.tc : Thread Cert.Kernel3Ideal.nD Cert.Kernel3Ideal.τ).loc Cert.Kernel3Ideal.main_v77_5)) (v2 : (c : Dev Cert.Kernel3Ideal.nD) → Buf (Elt Ideal) ((c.tc : Thread Cert.Kernel3Ideal.nD Cert.Kernel3Ideal.τ).loc Cert.Kernel3Ideal.main_v77_6)) (v3 : (c : Dev Cert.Kernel3Ideal.nD) → Buf (Elt Ideal) ((c.tc : Thread Cert.Kernel3Ideal.nD Cert.Kernel3Ideal.τ).loc Cert.Kernel3Ideal.main_v77_7)) (v4 : (c : Dev Cert.Kernel3Ideal.nD) → Buf (Elt Ideal) ((c.tc : Thread Cert.Kernel3Ideal.nD Cert.Kernel3Ideal.τ).loc Cert.Kernel3Ideal.main_v77_8)) (v5 : (c : Dev Cert.Kernel3Ideal.nD) → Buf (Elt Ideal) ((c.tc : Thread Cert.Kernel3Ideal.nD Cert.Kernel3Ideal.τ).loc Cert.Kernel3Ideal.main_v77_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v77_4) = v0 c
          ∧ r.2.mem ((c.tc : Thread Cert.Kernel3Ideal.nD Cert.Kernel3Ideal.τ).loc Cert.Kernel3Ideal.main_v77_5) = v1 c
          ∧ r.2.mem ((c.tc : Thread Cert.Kernel3Ideal.nD Cert.Kernel3Ideal.τ).loc Cert.Kernel3Ideal.main_v77_6) = v2 c
          ∧ r.2.mem ((c.tc : Thread Cert.Kernel3Ideal.nD Cert.Kernel3Ideal.τ).loc Cert.Kernel3Ideal.main_v77_7) = v3 c
          ∧ r.2.mem ((c.tc : Thread Cert.Kernel3Ideal.nD Cert.Kernel3Ideal.τ).loc Cert.Kernel3Ideal.main_v77_8) = v4 c
          ∧ r.2.mem ((c.tc : Thread Cert.Kernel3Ideal.nD Cert.Kernel3Ideal.τ).loc Cert.Kernel3Ideal.main_v77_9) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v146) = v0 c
          ∧ r.2.mem ((c.tc : Thread Cert.Reference3Ideal.nD Cert.Reference3Ideal.τ).loc Cert.Reference3Ideal.main_v62) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_v100) = v3 c
          ∧ r.2.mem ((c.tc : Thread Cert.Reference3Ideal.nD Cert.Reference3Ideal.τ).loc Cert.Reference3Ideal.main_v24) = v4 c
          ∧ r.2.mem ((c.tc : Thread Cert.Reference3Ideal.nD Cert.Reference3Ideal.τ).loc Cert.Reference3Ideal.main_v148) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x2048x1536 : Shape := ⟨3, ![16, 2048, 1536]⟩
abbrev S16x2048x256 : Shape := ⟨3, ![16, 2048, 256]⟩
abbrev S_ : Shape := ⟨0, ![]⟩

class Facts : Prop where
  bitsLt_bf16_f32 : FTy.bits .bf16 < FTy.bits .f32
  bcast_S_S16x2048x1536 : S_.BroadcastsInDim S16x2048x1536 (![] : Fin 0 → Fin S16x2048x1536.rank)
  bcast_S_S16x2048x256 : S_.BroadcastsInDim S16x2048x256 (![] : Fin 0 → Fin S16x2048x256.rank)

variable [Facts]

def fn {F : FTy → Type} [FloatOps F] (main_arg0 : FVec F S16x2048x1536 .bf16) (main_arg1 : FVec F S16x2048x256 .bf16) : IVec S16x2048x1536 1 × IVec S16x2048x256 1 :=
  let main_v0 : FVec F S16x2048x1536 .f32 := (extf .f32 · bitsLt_bf16_f32) main_arg0
  let main_v1 : FVec F S16x2048x1536 .f32 := Host.absf main_v0
  let main_cst : FVec F S_ .f32 := constant S_ .f32 0x7F800000#32
  let main_v2 : FVec F S16x2048x1536 .f32 := broadcastInDim S16x2048x1536 ![] bcast_S_S16x2048x1536 main_cst
  let main_v3 : IVec S16x2048x1536 1 := cmpf .olt main_v1 main_v2
  let main_v4 : FVec F S16x2048x256 .f32 := (extf .f32 · bitsLt_bf16_f32) main_arg1
  let main_v5 : FVec F S16x2048x256 .f32 := Host.absf main_v4
  let main_cst_0 : FVec F S_ .f32 := constant S_ .f32 0x7F800000#32
  let main_v6 : FVec F S16x2048x256 .f32 := broadcastInDim S16x2048x256 ![] bcast_S_S16x2048x256 main_cst_0
  let main_v7 : IVec S16x2048x256 1 := cmpf .olt main_v5 main_v6
  (main_v3, main_v7)
-- ==== Kernel.lean ====
abbrev S16x2048x1536 : Shape := ⟨3, ![16, 2048, 1536]⟩
abbrev S16x2048x256 : Shape := ⟨3, ![16, 2048, 256]⟩
abbrev S16x2048x768 : Shape := ⟨3, ![16, 2048, 768]⟩
abbrev S1x256x1536 : Shape := ⟨3, ![1, 256, 1536]⟩
abbrev S1x2048x256 : Shape := ⟨3, ![1, 2048, 256]⟩
abbrev S1x256x768 : Shape := ⟨3, ![1, 256, 768]⟩
abbrev S256x256 : Shape := ⟨2, ![256, 256]⟩
abbrev S256x1536 : Shape := ⟨2, ![256, 1536]⟩
abbrev S1x256x256 : Shape := ⟨3, ![1, 256, 256]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x1536, .bf16⟩
  | .hbm, ⟨1, _⟩ => ⟨S16x2048x256, .bf16⟩
  | .hbm, ⟨2, _⟩ => ⟨S16x2048x768, .bf16⟩
  | .local _ .vmem, ⟨0, _⟩ => ⟨S1x256x1536, .bf16⟩
  | .local _ .vmem, ⟨1, _⟩ => ⟨S1x256x1536, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x256x768, .bf16⟩
  | .local _ .vmem, ⟨5, _⟩ => ⟨S1x256x768, .bf16⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v11 : BitVec 32 := Scalar.muli arg1 c256_i32
  v11
def k0_off1 (i : grid0.Coords) : Fin 3 → Nat :=
  let c0_2 : Index := 0#32
  let arg1 : BitVec 32 := BitVec.ofNat 32 (i 1).val
  let c256_i32 : BitVec 32 := 256#32
  let v11 : BitVec 32 := Scalar.muli arg1 c256_i32
  let v12 : BitVec 32 := v11
  let v13 : Index := Scalar.indexCast v12
  let c0_3 : Index := 0#32
  ![0, v13.toNat, 0]
def k0_mult2 (i : grid0.Coords) : BitVec 32 :=
  let arg1 : BitVec 32 := BitVec.ofNat 32 (i 1).val
  let c256_i32_8 : BitVec 32 := 256#32
  let v29 : BitVec 32 := Scalar.muli arg1 c256_i32_8
  v29
def k0_off2 (i : grid0.Coords) : Fin 3 → Nat :=
  let c0_9 : Index := 0#32
  let arg1 : BitVec 32 := BitVec.ofNat 32 (i 1).val
  let c256_i32_8 : BitVec 32 := 256#32
  let v29 : BitVec 32 := Scalar.muli arg1 c256_i32_8
  let v30 : BitVec 32 := v29
  let v31 : Index := Scalar.indexCast v30
  let c0_10 : Index := 0#32
  ![0, v31.toNat, 0]
def k0_mult3 (i : grid0.Coords) : BitVec 32 :=
  let arg1 : BitVec 32 := BitVec.ofNat 32 (i 1).val
  let c256_i32_12 : BitVec 32 := 256#32
  let v35 : BitVec 32 := Scalar.muli arg1 c256_i32_12
  v35
def k0_mult4 (i : grid0.Coords) : BitVec 32 :=
  let arg1 : BitVec 32 := BitVec.ofNat 32 (i 1).val
  let c256_i32_20 : BitVec 32 := 256#32
  let v53 : BitVec 32 := Scalar.muli arg1 c256_i32_20
  v53
def k0_mult5 (i : grid0.Coords) : BitVec 32 :=
  let arg1 : BitVec 32 := BitVec.ofNat 32 (i 1).val
  let c256_i32_24 : BitVec 32 := 256#32
  let v59 : BitVec 32 := Scalar.muli arg1 c256_i32_24
  v59
def k0_mult6 (i : grid0.Coords) : BitVec 32 :=
  let arg1 : BitVec 32 := BitVec.ofNat 32 (i 1).val
  let c256_i32_32 : BitVec 32 := 256#32
  let v77 : BitVec 32 := Scalar.muli arg1 c256_i32_32
  v77
def k0_mult7 (i : grid0.Coords) : BitVec 32 :=
  let arg1 : BitVec 32 := BitVec.ofNat 32 (i 1).val
  let c256_i32_36 : BitVec 32 := 256#32
  let v83 : BitVec 32 := Scalar.muli arg1 c256_i32_36
  v83
def k0_mult8 (i : grid0.Coords) : BitVec 32 :=
  let arg1 : BitVec 32 := BitVec.ofNat 32 (i 1).val
  let c256_i32_44 : BitVec 32 := 256#32
  let v101 : BitVec 32 := Scalar.muli arg1 c256_i32_44
  v101
def k0_mult9 (i : grid0.Coords) : BitVec 32 :=
  let arg1 : BitVec 32 := BitVec.ofNat 32 (i 1).val
  let c256_i32_48 : BitVec 32 := 256#32
  let v107 : BitVec 32 := Scalar.muli arg1 c256_i32_48
  v107
def k0_mult10 (i : grid0.Coords) : BitVec 32 :=
  let arg1 : BitVec 32 := BitVec.ofNat 32 (i 1).val
  let c256_i32_56 : BitVec 32 := 256#32
  let v125 : BitVec 32 := Scalar.muli arg1 c256_i32_56
  v125
def k0_mult11 (i : grid0.Coords) : BitVec 32 :=
  let arg1 : BitVec 32 := BitVec.ofNat 32 (i 1).val
  let c256_i32_60 : BitVec 32 := 256#32
  let v131 : BitVec 32 := Scalar.muli arg1 c256_i32_60
  v131
def k0_mult12 (i : grid0.Coords) : BitVec 32 :=
  let arg1 : BitVec 32 := BitVec.ofNat 32 (i 1).val
  let c256_i32_68 : BitVec 32 := 256#32
  let v149 : BitVec 32 := Scalar.muli arg1 c256_i32_68
  v149
@[reducible] def k0_t1_loop (i : grid0.Coords) : Scf.Loop 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_72 : BitVec 32 := 1#32
  ⟨c0_i32, v159, c1_i32_72⟩
def k0_mult13 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_87 : BitVec 32 := 256#32
  let v198 : BitVec 32 := Scalar.muli arg5 c256_i32_87
  v198
def k0_off3 (i : grid0.Coords) (k0_t1 : Fin (k0_t1_loop i).trips) : Fin 3 → Nat :=
  let c0_88 : Index := 0#32
  let c0_i32 : BitVec 32 := 0#32
  let c1_i32_72 : BitVec 32 := 1#32
  let arg5 : BitVec 32 := Scf.iv c0_i32 c1_i32_72 k0_t1
  let c256_i32_87 : BitVec 32 := 256#32
  let v198 : BitVec 32 := Scalar.muli arg5 c256_i32_87
  let v199 : BitVec 32 := v198
  let v200 : Index := Scalar.indexCast v199
  let c0_89 : Index := 0#32
  ![0, v200.toNat, 0]
def k0_mult14 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_94 : BitVec 32 := 256#32
  let v221 : BitVec 32 := Scalar.muli arg5 c256_i32_94
  v221
def k0_off4 (i : grid0.Coords) (k0_t1 : Fin (k0_t1_loop i).trips) : Fin 3 → Nat :=
  let c0_95 : Index := 0#32
  let c0_i32 : BitVec 32 := 0#32
  let c1_i32_72 : BitVec 32 := 1#32
  let arg5 : BitVec 32 := Scf.iv c0_i32 c1_i32_72 k0_t1
  let c256_i32_94 : BitVec 32 := 256#32
  let v221 : BitVec 32 := Scalar.muli arg5 c256_i32_94
  let v222 : BitVec 32 := v221
  let v223 : Index := Scalar.indexCast v222
  let c0_96 : Index := 0#32
  ![0, v223.toNat, 0]
def k0_mult15 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_98 : BitVec 32 := 256#32
  let v228 : BitVec 32 := Scalar.muli arg5 c256_i32_98
  v228
def k0_mult16 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_105 : BitVec 32 := 256#32
  let v251 : BitVec 32 := Scalar.muli arg5 c256_i32_105
  v251
def k0_mult17 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_109 : BitVec 32 := 256#32
  let v258 : BitVec 32 := Scalar.muli arg5 c256_i32_109
  v258
def k0_mult18 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_116 : BitVec 32 := 256#32
  let v281 : BitVec 32 := Scalar.muli arg5 c256_i32_116
  v281
def k0_mult19 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_120 : BitVec 32 := 256#32
  let v288 : BitVec 32 := Scalar.muli arg5 c256_i32_120
  v288
def k0_mult20 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_127 : BitVec 32 := 256#32
  let v311 : BitVec 32 := Scalar.muli arg5 c256_i32_127
  v311
def k0_mult21 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_131 : BitVec 32 := 256#32
  let v318 : BitVec 32 := Scalar.muli arg5 c256_i32_131
  v318
def k0_mult22 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_138 : BitVec 32 := 256#32
  let v341 : BitVec 32 := Scalar.muli arg5 c256_i32_138
  v341
def k0_mult23 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_142 : BitVec 32 := 256#32
  let v348 : BitVec 32 := Scalar.muli arg5 c256_i32_142
  v348
def k0_mult24 (i : grid0.Coords) (k0_t1 : Fin (k0_t1_loop i).trips) : BitVec 32 :=
  let c0_i32 : BitVec 32 := 0#32
  let c1_i32_72 : BitVec 32 := 1#32
  let arg5 : BitVec 32 := Scf.iv c0_i32 c1_i32_72 k0_t1
  let c256_i32_149 : BitVec 32 := 256#32
  let v371 : BitVec 32 := Scalar.muli arg5 c256_i32_149
  v371
@[reducible] def k0_t2_loop (i : grid0.Coords) : Scf.Loop 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let v156 : BitVec 32 := Scalar.addi c0_i32 v155
  let c1_i32_73 : BitVec 32 := 1#32
  ⟨v159, v156, c1_i32_73⟩
def k0_mult25 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_87 : BitVec 32 := 256#32
  let v198 : BitVec 32 := Scalar.muli arg5 c256_i32_87
  v198
def k0_off5 (i : grid0.Coords) (k0_t2 : Fin (k0_t2_loop i).trips) : Fin 3 → Nat :=
  let c0_88 : Index := 0#32
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_87 : BitVec 32 := 256#32
  let v198 : BitVec 32 := Scalar.muli arg5 c256_i32_87
  let v199 : BitVec 32 := v198
  let v200 : Index := Scalar.indexCast v199
  let c0_89 : Index := 0#32
  ![0, v200.toNat, 0]
def k0_mult26 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_94 : BitVec 32 := 256#32
  let v221 : BitVec 32 := Scalar.muli arg5 c256_i32_94
  v221
def k0_off6 (i : grid0.Coords) (k0_t2 : Fin (k0_t2_loop i).trips) : Fin 3 → Nat :=
  let c0_95 : Index := 0#32
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_94 : BitVec 32 := 256#32
  let v221 : BitVec 32 := Scalar.muli arg5 c256_i32_94
  let v222 : BitVec 32 := v221
  let v223 : Index := Scalar.indexCast v222
  let c0_96 : Index := 0#32
  ![0, v223.toNat, 0]
def k0_mult27 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_98 : BitVec 32 := 256#32
  let v228 : BitVec 32 := Scalar.muli arg5 c256_i32_98
  v228
def k0_mult28 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_105 : BitVec 32 := 256#32
  let v251 : BitVec 32 := Scalar.muli arg5 c256_i32_105
  v251
def k0_mult29 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_109 : BitVec 32 := 256#32
  let v258 : BitVec 32 := Scalar.muli arg5 c256_i32_109
  v258
def k0_mult30 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_116 : BitVec 32 := 256#32
  let v281 : BitVec 32 := Scalar.muli arg5 c256_i32_116
  v281
def k0_mult31 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_120 : BitVec 32 := 256#32
  let v288 : BitVec 32 := Scalar.muli arg5 c256_i32_120
  v288
def k0_mult32 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_127 : BitVec 32 := 256#32
  let v311 : BitVec 32 := Scalar.muli arg5 c256_i32_127
  v311
def k0_mult33 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_131 : BitVec 32 := 256#32
  let v318 : BitVec 32 := Scalar.muli arg5 c256_i32_131
  v318
def k0_mult34 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_138 : BitVec 32 := 256#32
  let v341 : BitVec 32 := Scalar.muli arg5 c256_i32_138
  v341
def k0_mult35 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_142 : BitVec 32 := 256#32
  let v348 : BitVec 32 := Scalar.muli arg5 c256_i32_142
  v348
def k0_mult36 (i : grid0.Coords) (k0_t2 : Fin (k0_t2_loop i).trips) : BitVec 32 :=
  let c0_i32 : BitVec 32 := 0#32
  let arg1 : BitVec 32 := BitVec.ofNat 32 (i 1).val
  let v155 : BitVec 32 := Scalar.subi arg1 c0_i32
  let c1_i32 : BitVec 32 := 1#32
  let v157 : BitVec 32 := Scalar.divsi v155 c1_i32
  let v158 : BitVec 32 := Scalar.muli v157 c1_i32
  let v159 : BitVec 32 := Scalar.addi c0_i32 v158
  let c1_i32_73 : BitVec 32 := 1#32
  let arg5 : BitVec 32 := Scf.iv v159 c1_i32_73 k0_t2
  let c256_i32_149 : BitVec 32 := 256#32
  let v371 : BitVec 32 := Scalar.muli arg5 c256_i32_149
  v371
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x1536 : Shape := ⟨3, ![16, 2048, 1536]⟩
abbrev S16x2048x256 : Shape := ⟨3, ![16, 2048, 256]⟩
abbrev S16x2048x6x256 : Shape := ⟨4, ![16, 2048, 6, 256]⟩
abbrev S16x2048x6x128 : Shape := ⟨4, ![16, 2048, 6, 128]⟩
abbrev S16x2048x128 : Shape := ⟨3, ![16, 2048, 128]⟩
abbrev S2048 : Shape := ⟨1, ![2048]⟩
abbrev S16x2048x2048x6 : Shape := ⟨4, ![16, 2048, 2048, 6]⟩
abbrev S16x6x2048x2048 : Shape := ⟨4, ![16, 6, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x6x2048 : Shape := ⟨3, ![16, 6, 2048]⟩
abbrev S16x6x2048x1 : Shape := ⟨4, ![16, 6, 2048, 1]⟩
abbrev S16x128x6x2048 : Shape := ⟨4, ![16, 128, 6, 2048]⟩
abbrev S16x2048x768 : Shape := ⟨3, ![16, 2048, 768]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x1536, .bf16⟩
  | .hbm, ⟨1, _⟩ => ⟨S16x2048x256, .bf16⟩
  | .hbm, ⟨2, _⟩ => ⟨S16x2048x1536, .f32⟩
  | .hbm, ⟨3, _⟩ => ⟨S16x2048x6x256, .f32⟩
  | .hbm, ⟨4, _⟩ => ⟨S16x2048x256, .f32⟩
  | .hbm, ⟨5, _⟩ => ⟨S16x2048x6x128, .f32⟩
  | .hbm, ⟨6, _⟩ => ⟨S16x2048x6x128, .f32⟩
  | .hbm, ⟨7, _⟩ => ⟨S16x2048x128, .f32⟩
  | .hbm, ⟨8, _⟩ => ⟨S16x2048x128, .f32⟩
  | .hbm, ⟨9, _⟩ => ⟨S2048, .i32⟩
  | .hbm, ⟨10, _⟩ => ⟨S16x2048x2048x6, .f32⟩
  | .hbm, ⟨11, _⟩ => ⟨S16x6x2048x2048, .f32⟩
  | .hbm, ⟨12, _⟩ => ⟨S16x2048x2048x6, .f32⟩
  | .hbm, ⟨13, _⟩ => ⟨S16x6x2048x2048, .f32⟩
  | .hbm, ⟨14, _⟩ => ⟨S16x6x2048x2048, .f32⟩
  | .hbm, ⟨15, _⟩ => ⟨S_, .f32⟩
  | .hbm, ⟨16, _⟩ => ⟨S16x6x2048x2048, .f32⟩
  | .hbm, ⟨17, _⟩ => ⟨S16x6x2048x2048, .f32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S16x6x2048x2048, .i1⟩
  | .hbm, ⟨26, _⟩ => ⟨S16x6x2048x2048, .f32⟩
  | .hbm, ⟨27, _⟩ => ⟨S16x6x2048x2048, .f32⟩
  | .hbm, ⟨28, _⟩ => ⟨S_, .f32⟩
  | .hbm, ⟨29, _⟩ => ⟨S16x6x2048, .f32⟩
  | .hbm, ⟨30, _⟩ => ⟨S_, .f32⟩
  | .hbm, ⟨31, _⟩ => ⟨S16x6x2048, .f32⟩
  | .hbm, ⟨32, _⟩ => ⟨S16x6x2048, .f32⟩
  | .hbm, ⟨33, _⟩ => ⟨S16x6x2048x1, .f32⟩
  | .hbm, ⟨34, _⟩ => ⟨S16x6x2048x2048, .f32⟩
  | .hbm, ⟨35, _⟩ => ⟨S16x6x2048x2048, .f32⟩
  | .hbm, ⟨36, _⟩ => ⟨S16x6x2048x2048, .f32⟩
  | .hbm, ⟨37, _⟩ => ⟨S_, .f32⟩
  | .hbm, ⟨38, _⟩ => ⟨S16x6x2048, .f32⟩
  | .hbm, ⟨39, _⟩ => ⟨S16x6x2048x1, .f32⟩
  | .hbm, ⟨40, _⟩ => ⟨S16x6x2048x2048, .f32⟩
  | .hbm, ⟨41, _⟩ => ⟨S16x6x2048x2048, .f32⟩
  | .hbm, ⟨42, _⟩ => ⟨S16x128x6x2048, .f32⟩
  | .hbm, ⟨43, _⟩ => ⟨S16x2048x6x128, .f32⟩
  | .hbm, ⟨44, _⟩ => ⟨S16x2048x768, .f32⟩
  | .hbm, ⟨45, _⟩ => ⟨S16x2048x768, .bf16⟩
  | _, _ => ⟨S16x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel2.lean ====
abbrev S32768x1024 : Shape := ⟨2, ![32768, 1024]⟩
abbrev S32768x384 : Shape := ⟨2, ![32768, 384]⟩
abbrev S32768x256 : Shape := ⟨2, ![32768, 256]⟩
abbrev S32768x768 : Shape := ⟨2, ![32768, 768]⟩
abbrev S128x6x64 : Shape := ⟨3, ![128, 6, 64]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S6x128x64 : Shape := ⟨3, ![6, 128, 64]⟩
abbrev S1x128x64 : Shape := ⟨3, ![1, 128, 64]⟩
abbrev S128x64 : Shape := ⟨2, ![128, 64]⟩
abbrev S_ : Shape := ⟨0, ![]⟩
abbrev S128x128 : Shape := ⟨2, ![128, 128]⟩
abbrev S1x128x128 : Shape := ⟨3, ![1, 128, 128]⟩
abbrev S6x128x128 : Shape := ⟨3, ![6, 128, 128]⟩
abbrev S1x1024 : Shape := ⟨2, ![1, 1024]⟩
abbrev S512x1024 : Shape := ⟨2, ![512, 1024]⟩
abbrev S512x384 : Shape := ⟨2, ![512, 384]⟩
abbrev S512x256 : Shape := ⟨2, ![512, 256]⟩
abbrev S512x768 : Shape := ⟨2, ![512, 768]⟩
abbrev S384x1024 : Shape := ⟨2, ![384, 1024]⟩
abbrev S256x1024 : Shape := ⟨2, ![256, 1024]⟩
abbrev S512x128 : Shape := ⟨2, ![512, 128]⟩
abbrev S128x1024 : Shape := ⟨2, ![128, 1024]⟩
abbrev S512 : Shape := ⟨1, ![512]⟩
abbrev S512x1 : Shape := ⟨2, ![512, 1]⟩

abbrev nBuf : Space → Nat
  | .hbm => 55
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x384, .bf16⟩
  | .hbm, ⟨2, _⟩ => ⟨S32768x256, .bf16⟩
  | .hbm, ⟨3, _⟩ => ⟨S32768x768, .bf16⟩
  | .hbm, ⟨4, _⟩ => ⟨S128x6x64, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S6x128x64, .f32⟩
  | .hbm, ⟨11, _⟩ => ⟨S1x128x64, .f32⟩
  | .hbm, ⟨12, _⟩ => ⟨S128x64, .f32⟩
  | .hbm, ⟨13, _⟩ => ⟨S_, .i32⟩
  | .hbm, ⟨14, _⟩ => ⟨S_, .f32⟩
  | .hbm, ⟨15, _⟩ => ⟨S128x128, .f32⟩
  | .hbm, ⟨16, _⟩ => ⟨S1x128x64, .f32⟩
  | .hbm, ⟨17, _⟩ => ⟨S128x64, .f32⟩
  | .hbm, ⟨18, _⟩ => ⟨S_, .i32⟩
  | .hbm, ⟨19, _⟩ => ⟨S_, .f32⟩
  | .hbm, ⟨20, _⟩ => ⟨S128x128, .f32⟩
  | .hbm, ⟨21, _⟩ => ⟨S1x128x64, .f32⟩
  | .hbm, ⟨22, _⟩ => ⟨S128x64, .f32⟩
  | .hbm, ⟨23, _⟩ => ⟨S_, .i32⟩
  | .hbm, ⟨24, _⟩ => ⟨S_, .f32⟩
  | .hbm, ⟨25, _⟩ => ⟨S128x128, .f32⟩
  | .hbm, ⟨26, _⟩ => ⟨S1x128x64, .f32⟩
  | .hbm, ⟨27, _⟩ => ⟨S128x64, .f32⟩
  | .hbm, ⟨28, _⟩ => ⟨S_, .i32⟩
  | .hbm, ⟨29, _⟩ => ⟨S_, .f32⟩
  | .hbm, ⟨30, _⟩ => ⟨S128x128, .f32⟩
  | .hbm, ⟨31, _⟩ => ⟨S1x128x64, .f32⟩
  | .hbm, ⟨32, _⟩ => ⟨S128x64, .f32⟩
  | .hbm, ⟨33, _⟩ => ⟨S_, .i32⟩
  | .hbm, ⟨34, _⟩ => ⟨S_, .f32⟩
  | .hbm, ⟨35, _⟩ => ⟨S128x128, .f32⟩
  | .hbm, ⟨36, _⟩ => ⟨S1x128x64, .f32⟩
  | .hbm, ⟨37, _⟩ => ⟨S128x64, .f32⟩
  | .hbm, ⟨38, _⟩ => ⟨S_, .i32⟩
  | .hbm, ⟨39, _⟩ => ⟨S_, .f32⟩
  | .hbm, ⟨40, _⟩ => ⟨S128x128, .f32⟩
  | .hbm, ⟨41, _⟩ => ⟨S1x128x128, .f32⟩
  | .hbm, ⟨42, _⟩ => ⟨S1x128x128, .f32⟩
  | .hbm, ⟨43, _⟩ => ⟨S1x128x128, .f32⟩
  | .hbm, ⟨44, _⟩ => ⟨S1x128x128, .f32⟩
  | .hbm, ⟨45, _⟩ => ⟨S1x128x128, .f32⟩
  | .hbm, ⟨46, _⟩ => ⟨S1x128x128, .f32⟩
  | .hbm, ⟨47, _⟩ => ⟨S6x128x128, .f32⟩
  | .hbm, ⟨48, _⟩ => ⟨S6x128x128, .bf16⟩
  | .hbm, ⟨49, _⟩ => ⟨S1024x1024, .bf16⟩
  | .hbm, ⟨50, _⟩ => ⟨S1x1024, .f32⟩
  | .hbm, ⟨51, _⟩ => ⟨S1024x4096, .bf16⟩
  | .hbm, ⟨52, _⟩ => ⟨S4096x1024, .bf16⟩
  | .hbm, ⟨53, _⟩ => ⟨S1x1024, .f32⟩
  | .hbm, ⟨54, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x768, .bf16⟩
  | .local _ .vmem, ⟨7, _⟩ => ⟨S512x768, .bf16⟩
  | .local _ .vmem, ⟨8, _⟩ => ⟨S6x128x128, .bf16⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_call1_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_call2_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_call3_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_call4_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_call5_v0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x1024 : Shape := ⟨2, ![32768, 1024]⟩
abbrev S32768x384 : Shape := ⟨2, ![32768, 384]⟩
abbrev S32768x256 : Shape := ⟨2, ![32768, 256]⟩
abbrev S32768x768 : Shape := ⟨2, ![32768, 768]⟩
abbrev S128x6x64 : Shape := ⟨3, ![128, 6, 64]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x6x128 : Shape := ⟨3, ![32768, 6, 128]⟩
abbrev S6x64x32768 : Shape := ⟨3, ![6, 64, 32768]⟩
abbrev S32768x6x64 : Shape := ⟨3, ![32768, 6, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x384, .bf16⟩
  | .hbm, ⟨2, _⟩ => ⟨S32768x256, .bf16⟩
  | .hbm, ⟨3, _⟩ => ⟨S32768x768, .bf16⟩
  | .hbm, ⟨4, _⟩ => ⟨S128x6x64, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S32768x384, .f32⟩
  | .hbm, ⟨11, _⟩ => ⟨S32768x256, .f32⟩
  | .hbm, ⟨12, _⟩ => ⟨S32768x768, .f32⟩
  | .hbm, ⟨13, _⟩ => ⟨S32768x6x128, .f32⟩
  | .hbm, ⟨14, _⟩ => ⟨S6x64x32768, .f32⟩
  | .hbm, ⟨15, _⟩ => ⟨S32768x6x64, .f32⟩
  | .hbm, ⟨16, _⟩ => ⟨S32768x384, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S1x1024, .f32⟩
  | .hbm, ⟨34, _⟩ => ⟨S32768x1024, .f32⟩
  | .hbm, ⟨35, _⟩ => ⟨S32768x1024, .f32⟩
  | .hbm, ⟨36, _⟩ => ⟨S32768x4096, .f32⟩
  | .hbm, ⟨37, _⟩ => ⟨S_, .f32⟩
  | .hbm, ⟨38, _⟩ => ⟨S32768x4096, .f32⟩
  | .hbm, ⟨39, _⟩ => ⟨S32768x4096, .f32⟩
  | .hbm, ⟨40, _⟩ => ⟨S32768x4096, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S1x1024, .f32⟩
  | .hbm, ⟨57, _⟩ => ⟨S32768x1024, .f32⟩
  | .hbm, ⟨58, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x1824 : Shape := ⟨2, ![1024, 1824]⟩
abbrev S256 : Shape := ⟨1, ![256]⟩
abbrev S256x576 : Shape := ⟨2, ![256, 576]⟩
abbrev S128 : Shape := ⟨1, ![128]⟩
abbrev S128x6x64 : Shape := ⟨3, ![128, 6, 64]⟩
abbrev S1024x384 : Shape := ⟨2, ![1024, 384]⟩
abbrev S1024x256 : Shape := ⟨2, ![1024, 256]⟩
abbrev S1024x32 : Shape := ⟨2, ![1024, 32]⟩
abbrev S_ : Shape := ⟨0, ![]⟩
abbrev S1024x96 : Shape := ⟨2, ![1024, 96]⟩
abbrev S1024x1152 : Shape := ⟨2, ![1024, 1152]⟩
abbrev S1024x512 : Shape := ⟨2, ![1024, 512]⟩
abbrev S1024x800 : Shape := ⟨2, ![1024, 800]⟩
abbrev S800x1024 : Shape := ⟨2, ![800, 1024]⟩
abbrev S256x6x96 : Shape := ⟨3, ![256, 6, 96]⟩
abbrev S256x6x64 : Shape := ⟨3, ![256, 6, 64]⟩
abbrev S256x384 : Shape := ⟨2, ![256, 384]⟩
abbrev S256x6x32 : Shape := ⟨3, ![256, 6, 32]⟩
abbrev S256x6x128 : Shape := ⟨3, ![256, 6, 128]⟩
abbrev S256x768 : Shape := ⟨2, ![256, 768]⟩
abbrev S6x64x128 : Shape := ⟨3, ![6, 64, 128]⟩
abbrev S1x1024 : Shape := ⟨2, ![1, 1024]⟩
abbrev S1x256 : Shape := ⟨2, ![1, 256]⟩
abbrev S1x128 : Shape := ⟨2, ![1, 128]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S32x2048 : Shape := ⟨2, ![32, 2048]⟩
abbrev S16 : Shape := ⟨1, ![16]⟩
abbrev S1x16 : Shape := ⟨2, ![1, 16]⟩
abbrev S2048x16 : Shape := ⟨2, ![2048, 16]⟩
abbrev S1x2048x1x16 : Shape := ⟨4, ![1, 2048, 1, 16]⟩
abbrev S1x2048x8x16 : Shape := ⟨4, ![1, 2048, 8, 16]⟩
abbrev S16x2048 : Shape := ⟨2, ![16, 2048]⟩
abbrev S16x2048x384 : Shape := ⟨3, ![16, 2048, 384]⟩
abbrev S16x2048x256 : Shape := ⟨3, ![16, 2048, 256]⟩
abbrev S16x2048x1536 : Shape := ⟨3, ![16, 2048, 1536]⟩
abbrev S1x16x2048x128 : Shape := ⟨4, ![1, 16, 2048, 128]⟩
abbrev S1x16x128x2048 : Shape := ⟨4, ![1, 16, 128, 2048]⟩
abbrev S1x16x256x2048 : Shape := ⟨4, ![1, 16, 256, 2048]⟩
abbrev S1x16x32x2048 : Shape := ⟨4, ![1, 16, 32, 2048]⟩
abbrev S1x512x1024 : Shape := ⟨3, ![1, 512, 1024]⟩
abbrev S512x128 : Shape := ⟨2, ![512, 128]⟩
abbrev S32x512 : Shape := ⟨2, ![32, 512]⟩
abbrev S16x512 : Shape := ⟨2, ![16, 512]⟩
abbrev S1x512x384 : Shape := ⟨3, ![1, 512, 384]⟩
abbrev S1x512x256 : Shape := ⟨3, ![1, 512, 256]⟩
abbrev S1x512x1536 : Shape := ⟨3, ![1, 512, 1536]⟩
abbrev S1x1x512x128 : Shape := ⟨4, ![1, 1, 512, 128]⟩
abbrev S1x1x128x512 : Shape := ⟨4, ![1, 1, 128, 512]⟩
abbrev S1x1x256x512 : Shape := ⟨4, ![1, 1, 256, 512]⟩
abbrev S1x1x32x512 : Shape := ⟨4, ![1, 1, 32, 512]⟩
abbrev S512x1024 : Shape := ⟨2, ![512, 1024]⟩
abbrev S512 : Shape := ⟨1, ![512]⟩
abbrev S512x1 : Shape := ⟨2, ![512, 1]⟩
abbrev S512x1152 : Shape := ⟨2, ![512, 1152]⟩
abbrev S800x512 : Shape := ⟨2, ![800, 512]⟩
abbrev S1x512x128 : Shape := ⟨3, ![1, 512, 128]⟩
abbrev S512x256 : Shape := ⟨2, ![512, 256]⟩
abbrev S512x384 : Shape := ⟨2, ![512, 384]⟩
abbrev S512x768 : Shape := ⟨2, ![512, 768]⟩
abbrev S512x64 : Shape := ⟨2, ![512, 64]⟩
abbrev S1x64x128 : Shape := ⟨3, ![1, 64, 128]⟩
abbrev S64x128 : Shape := ⟨2, ![64, 128]⟩
abbrev S128x512 : Shape := ⟨2, ![128, 512]⟩
abbrev S1x1x16x512 : Shape := ⟨4, ![1, 1, 16, 512]⟩
abbrev S256x512 : Shape := ⟨2, ![256, 512]⟩

abbrev nBuf : Space → Nat
  | .hbm => 103
  | .vmem => 46
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x1824, .f32⟩
  | .hbm, ⟨3, _⟩ => ⟨S256, .f32⟩
  | .hbm, ⟨4, _⟩ => ⟨S256x576, .f32⟩
  | .hbm, ⟨5, _⟩ => ⟨S128, .f32⟩
  | .hbm, ⟨6, _⟩ => ⟨S128x6x64, .f32⟩
  | .hbm, ⟨7, _⟩ => ⟨S1024x384, .f32⟩
  | .hbm, ⟨8, _⟩ => ⟨S1024x256, .f32⟩
  | .hbm, ⟨9, _⟩ => ⟨S1024x384, .f32⟩
  | .hbm, ⟨10, _⟩ => ⟨S1024x32, .f32⟩
  | .hbm, ⟨11, _⟩ => ⟨S_, .f32⟩
  | .hbm, ⟨12, _⟩ => ⟨S1024x96, .f32⟩
  | .hbm, ⟨13, _⟩ => ⟨S1024x1152, .f32⟩
  | .hbm, ⟨14, _⟩ => ⟨S1024x256, .f32⟩
  | .hbm, ⟨15, _⟩ => ⟨S1024x512, .f32⟩
  | .hbm, ⟨16, _⟩ => ⟨S1024x32, .f32⟩
  | .hbm, ⟨17, _⟩ => ⟨S1024x800, .f32⟩
  | .hbm, ⟨18, _⟩ => ⟨S800x1024, .f32⟩
  | .hbm, ⟨19, _⟩ => ⟨S256x6x96, .f32⟩
  | .hbm, ⟨20, _⟩ => ⟨S256x6x64, .f32⟩
  | .hbm, ⟨21, _⟩ => ⟨S256x384, .f32⟩
  | .hbm, ⟨22, _⟩ => ⟨S256x6x32, .f32⟩
  | .hbm, ⟨23, _⟩ => ⟨S_, .i32⟩
  | .hbm, ⟨24, _⟩ => ⟨S_, .f32⟩
  | .hbm, ⟨25, _⟩ => ⟨S256x6x128, .f32⟩
  | .hbm, ⟨26, _⟩ => ⟨S256x768, .f32⟩
  | .hbm, ⟨27, _⟩ => ⟨S6x64x128, .f32⟩
  | .hbm, ⟨28, _⟩ => ⟨S1x1024, .f32⟩
  | .hbm, ⟨29, _⟩ => ⟨S1024x1152, .bf16⟩
  | .hbm, ⟨30, _⟩ => ⟨S800x1024, .bf16⟩
  | .hbm, ⟨31, _⟩ => ⟨S1x256, .f32⟩
  | .hbm, ⟨32, _⟩ => ⟨S256x384, .bf16⟩
  | .hbm, ⟨33, _⟩ => ⟨S256x768, .bf16⟩
  | .hbm, ⟨34, _⟩ => ⟨S6x64x128, .bf16⟩
  | .hbm, ⟨35, _⟩ => ⟨S1x128, .f32⟩
  | .hbm, ⟨36, _⟩ => ⟨S2048, .i32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S2048, .f32⟩
  | .hbm, ⟨48, _⟩ => ⟨S2048x1, .f32⟩
  | .hbm, ⟨49, _⟩ => ⟨S1x32, .f32⟩
  | .hbm, ⟨50, _⟩ => ⟨S2048x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S1x2048x1x32, .f32⟩
  | .hbm, ⟨56, _⟩ => ⟨S1x2048x4x32, .f32⟩
  | .hbm, ⟨57, _⟩ => ⟨S2048x128, .f32⟩
  | .hbm, ⟨58, _⟩ => ⟨S2048x32, .f32⟩
  | .hbm, ⟨59, _⟩ => ⟨S2048x64, .f32⟩
  | .hbm, ⟨60, _⟩ => ⟨S1x2048x1x64, .f32⟩
  | .hbm, ⟨61, _⟩ => ⟨S1x2048x2x64, .f32⟩
  | .hbm, ⟨62, _⟩ => ⟨S2048x128, .f32⟩
  | .hbm, ⟨63, _⟩ => ⟨S32x2048, .f32⟩
  | .hbm, ⟨64, _⟩ => ⟨S32x2048, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S2048, .f32⟩
  | .hbm, ⟨76, _⟩ => ⟨S2048x1, .f32⟩
  | .hbm, ⟨77, _⟩ => ⟨S1x16, .f32⟩
  | .hbm, ⟨78, _⟩ => ⟨S2048x16, .f32⟩
  | .hbm, ⟨79, _⟩ => ⟨S2048x16, .f32⟩
  | .hbm, ⟨80, _⟩ => ⟨S2048x16, .f32⟩
  | .hbm, ⟨81, _⟩ => ⟨S2048x16, .f32⟩
  | .hbm, ⟨82, _⟩ => ⟨S2048x16, .f32⟩
  | .hbm, ⟨83, _⟩ => ⟨S1x2048x1x16, .f32⟩
  | .hbm, ⟨84, _⟩ => ⟨S1x2048x8x16, .f32⟩
  | .hbm, ⟨85, _⟩ => ⟨S2048x128, .f32⟩
  | .hbm, ⟨86, _⟩ => ⟨S2048x16, .f32⟩
  | .hbm, ⟨87, _⟩ => ⟨S2048x32, .f32⟩
  | .hbm, ⟨88, _⟩ => ⟨S1x2048x1x32, .f32⟩
  | .hbm, ⟨89, _⟩ => ⟨S1x2048x4x32, .f32⟩
  | .hbm, ⟨90, _⟩ => ⟨S2048x128, .f32⟩
  | .hbm, ⟨91, _⟩ => ⟨S16x2048, .f32⟩
  | .hbm, ⟨92, _⟩ => ⟨S16x2048, .f32⟩
  | .hbm, ⟨93, _⟩ => ⟨S16x2048x384, .f32⟩
  | .hbm, ⟨94, _⟩ => ⟨S16x2048x256, .bf16⟩
  | .hbm, ⟨95, _⟩ => ⟨S16x2048x1536, .bf16⟩
  | .hbm, ⟨96, _⟩ => ⟨S16x2048x256, .bf16⟩
  | .hbm, ⟨97, _⟩ => ⟨S1x16x2048x128, .f32⟩
  | .hbm, ⟨98, _⟩ => ⟨S1x16x128x2048, .f32⟩
  | .hbm, ⟨99, _⟩ => ⟨S1x16x128x2048, .f32⟩
  | .hbm, ⟨100, _⟩ => ⟨S1x16x256x2048, .f32⟩
  | .hbm, ⟨101, _⟩ => ⟨S1x16x256x2048, .f32⟩
  | .hbm, ⟨102, _⟩ => ⟨S1x16x32x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1152, .bf16⟩
  | .local _ .vmem, ⟨4, _⟩ => ⟨S800x1024, .bf16⟩
  | .local _ .vmem, ⟨5, _⟩ => ⟨S1x256, .f32⟩
  | .local _ .vmem, ⟨6, _⟩ => ⟨S256x384, .bf16⟩
  | .local _ .vmem, ⟨7, _⟩ => ⟨S256x768, .bf16⟩
  | .local _ .vmem, ⟨8, _⟩ => ⟨S6x64x128, .bf16⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S32x512, .f32⟩
  | .local _ .vmem, ⟨19, _⟩ => ⟨S32x512, .f32⟩
  | .local _ .vmem, ⟨20, _⟩ => ⟨S32x512, .f32⟩
  | .local _ .vmem, ⟨21, _⟩ => ⟨S32x512, .f32⟩
  | .local _ .vmem, ⟨22, _⟩ => ⟨S16x512, .f32⟩
  | .local _ .vmem, ⟨23, _⟩ => ⟨S16x512, .f32⟩
  | .local _ .vmem, ⟨24, _⟩ => ⟨S16x512, .f32⟩
  | .local _ .vmem, ⟨25, _⟩ => ⟨S16x512, .f32⟩
  | .local _ .vmem, ⟨26, _⟩ => ⟨S1x512x384, .f32⟩
  | .local _ .vmem, ⟨27, _⟩ => ⟨S1x512x384, .f32⟩
  | .local _ .vmem, ⟨28, _⟩ => ⟨S1x512x256, .bf16⟩
  | .local _ .vmem, ⟨29, _⟩ => ⟨S1x512x256, .bf16⟩
  | .local _ .vmem, ⟨30, _⟩ => ⟨S1x512x1536, .bf16⟩
  | .local _ .vmem, ⟨31, _⟩ => ⟨S1x512x1536, .bf16⟩
  | .local _ .vmem, ⟨32, _⟩ => ⟨S1x512x256, .bf16⟩
  | .local _ .vmem, ⟨33, _⟩ => ⟨S1x512x256, .bf16⟩
  | .local _ .vmem, ⟨34, _⟩ => ⟨S1x1x512x128, .f32⟩
  | .local _ .vmem, ⟨35, _⟩ => ⟨S1x1x512x128, .f32⟩
  | .local _ .vmem, ⟨36, _⟩ => ⟨S1x1x128x512, .f32⟩
  | .local _ .vmem, ⟨37, _⟩ => ⟨S1x1x128x512, .f32⟩
  | .local _ .vmem, ⟨38, _⟩ => ⟨S1x1x128x512, .f32⟩
  | .local _ .vmem, ⟨39, _⟩ => ⟨S1x1x128x512, .f32⟩
  | .local _ .vmem, ⟨40, _⟩ => ⟨S1x1x256x512, .f32⟩
  | .local _ .vmem, ⟨41, _⟩ => ⟨S1x1x256x512, .f32⟩
  | .local _ .vmem, ⟨42, _⟩ => ⟨S1x1x256x512, .f32⟩
  | .local _ .vmem, ⟨43, _⟩ => ⟨S1x1x256x512, .f32⟩
  | .local _ .vmem, ⟨44, _⟩ => ⟨S1x1x32x512, .f32⟩
  | .local _ .vmem, ⟨45, _⟩ => ⟨S1x1x32x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77_0 : Ref sig .tc := ⟨.hbm, 93, rfl⟩
abbrev main_v77_1 : Ref sig .tc := ⟨.hbm, 94, rfl⟩
abbrev main_v77_2 : Ref sig .tc := ⟨.hbm, 95, rfl⟩
abbrev main_v77_3 : Ref sig .tc := ⟨.hbm, 96, rfl⟩
abbrev main_v77_4 : Ref sig .tc := ⟨.hbm, 97, rfl⟩
abbrev main_v77_5 : Ref sig .tc := ⟨.hbm, 98, rfl⟩
abbrev main_v77_6 : Ref sig .tc := ⟨.hbm, 99, rfl⟩
abbrev main_v77_7 : Ref sig .tc := ⟨.hbm, 100, rfl⟩
abbrev main_v77_8 : Ref sig .tc := ⟨.hbm, 101, rfl⟩
abbrev main_v77_9 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_stg26_0 : Ref sig .tc := ⟨.vmem, 44, rfl⟩
abbrev cc0_stg26_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43
abbrev cc0_sem26_0 : DmaSem sig := 44
abbrev cc0_sem26_1 : DmaSem sig := 45

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_26 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S800x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S6x64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x512x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1536 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1x128x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1x128x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1x256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1x256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x1x32x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Reference3Ideal.lean ====
abbrev S16x2048x1024 : Shape := ⟨3, ![16, 2048, 1024]⟩
abbrev S1024 : Shape := ⟨1, ![1024]⟩
abbrev S1024x1824 : Shape := ⟨2, ![1024, 1824]⟩
abbrev S256 : Shape := ⟨1, ![256]⟩
abbrev S256x576 : Shape := ⟨2, ![256, 576]⟩
abbrev S128 : Shape := ⟨1, ![128]⟩
abbrev S128x6x64 : Shape := ⟨3, ![128, 6, 64]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x1824 : Shape := ⟨3, ![16, 2048, 1824]⟩
abbrev S16x2048x128 : Shape := ⟨3, ![16, 2048, 128]⟩
abbrev S16x2048x256 : Shape := ⟨3, ![16, 2048, 256]⟩
abbrev S16x2048x32 : Shape := ⟨3, ![16, 2048, 32]⟩
abbrev S16x128x2048 : Shape := ⟨3, ![16, 128, 2048]⟩
abbrev S1x16x128x2048 : Shape := ⟨4, ![1, 16, 128, 2048]⟩
abbrev S16x256x2048 : Shape := ⟨3, ![16, 256, 2048]⟩
abbrev S1x16x256x2048 : Shape := ⟨4, ![1, 16, 256, 2048]⟩
abbrev S16x2048x2x64 : Shape := ⟨4, ![16, 2048, 2, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x2x32 : Shape := ⟨4, ![16, 2048, 2, 32]⟩
abbrev S1x2048x1x32 : Shape := ⟨4, ![1, 2048, 1, 32]⟩
abbrev S16x2048x8x32 : Shape := ⟨4, ![16, 2048, 8, 32]⟩
abbrev S16 : Shape := ⟨1, ![16]⟩
abbrev S1x16 : Shape := ⟨2, ![1, 16]⟩
abbrev S2048x16 : Shape := ⟨2, ![2048, 16]⟩
abbrev S2048x1x16 : Shape := ⟨3, ![2048, 1, 16]⟩
abbrev S16x2048x8x16 : Shape := ⟨4, ![16, 2048, 8, 16]⟩
abbrev S1x2048x1x16 : Shape := ⟨4, ![1, 2048, 1, 16]⟩
abbrev S1x1x128 : Shape := ⟨3, ![1, 1, 128]⟩
abbrev S16x2048x16 : Shape := ⟨3, ![16, 2048, 16]⟩
abbrev S1x2048x16 : Shape := ⟨3, ![1, 2048, 16]⟩
abbrev S1x16x2048x128 : Shape := ⟨4, ![1, 16, 2048, 128]⟩
abbrev S16x32x2048 : Shape := ⟨3, ![16, 32, 2048]⟩
abbrev S1x16x32x2048 : Shape := ⟨4, ![1, 16, 32, 2048]⟩

abbrev nBuf : Space → Nat
  | .hbm => 171
  | .vmem => 0
  | .smem => 0
  | _ => 0

abbrev hbmTy0_0 (i : Nat) : BufTy := match i % 128 with
  | 0 => ⟨S16x2048x1024, .f32⟩
  | 1 => ⟨S1024, .f32⟩
  | 2 => ⟨S1024x1824, .f32⟩
  | 3 => ⟨S256, .f32⟩
  | 4 => ⟨S256x576, .f32⟩
  | 5 => ⟨S128, .f32⟩
  | 6 => ⟨S128x6x64, .f32⟩
  | 7 => ⟨S2048, .i32⟩
  | 8 => ⟨S16x2048x1024, .f32⟩
  | 9 => ⟨S_, .f32⟩
  | 10 => ⟨S16x2048, .f32⟩
  | 11 => ⟨S16x2048x1, .f32⟩
  | 12 => ⟨S_, .f32⟩
  | 13 => ⟨S16x2048x1, .f32⟩
  | 14 => ⟨S16x2048x1, .f32⟩
  | 15 => ⟨S_, .f32⟩
  | 16 => ⟨S16x2048x1, .f32⟩
  | 17 => ⟨S16x2048x1, .f32⟩
  | 18 => ⟨S16x2048x1, .f32⟩
  | 19 => ⟨S16x2048x1024, .f32⟩
  | 20 => ⟨S16x2048x1024, .f32⟩
  | 21 => ⟨S1x1x1024, .f32⟩
  | 22 => ⟨S16x2048x1024, .f32⟩
  | 23 => ⟨S16x2048x1024, .f32⟩
  | 24 => ⟨S16x2048x1824, .f32⟩
  | 25 => ⟨S16x2048x128, .f32⟩
  | 26 => ⟨S16x2048x128, .f32⟩
  | 27 => ⟨S16x2048x256, .f32⟩
  | 28 => ⟨S16x2048x256, .f32⟩
  | 29 => ⟨S16x2048x128, .f32⟩
  | 30 => ⟨S16x2048x32, .f32⟩
  | 31 => ⟨S16x128x2048, .f32⟩
  | 32 => ⟨S1x16x128x2048, .f32⟩
  | 33 => ⟨S16x256x2048, .f32⟩
  | 34 => ⟨S1x16x256x2048, .f32⟩
  | 35 => ⟨S16x2048x2x64, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S2048, .f32⟩
  | 47 => ⟨S2048x1, .f32⟩
  | 48 => ⟨S1x32, .f32⟩
  | 49 => ⟨S2048x32, .f32⟩
  | 50 => ⟨S2048x32, .f32⟩
  | 51 => ⟨S2048x32, .f32⟩
  | 52 => ⟨S2048x32, .f32⟩
  | 53 => ⟨S2048x1x32, .f32⟩
  | 54 => ⟨S2048x32, .f32⟩
  | 55 => ⟨S2048x1x32, .f32⟩
  | 56 => ⟨S16x2048x2x32, .f32⟩
  | 57 => ⟨S16x2048x2x32, .f32⟩
  | 58 => ⟨S1x2048x1x32, .f32⟩
  | 59 => ⟨S16x2048x2x32, .f32⟩
  | 60 => ⟨S16x2048x2x32, .f32⟩
  | 61 => ⟨S1x2048x1x32, .f32⟩
  | 62 => ⟨S16x2048x2x32, .f32⟩
  | 63 => ⟨S16x2048x2x32, .f32⟩
  | 64 => ⟨S16x2048x2x32, .f32⟩
  | 65 => ⟨S1x2048x1x32, .f32⟩
  | 66 => ⟨S16x2048x2x32, .f32⟩
  | 67 => ⟨S16x2048x2x32, .f32⟩
  | 68 => ⟨S1x2048x1x32, .f32⟩
  | 69 => ⟨S16x2048x2x32, .f32⟩
  | 70 => ⟨S16x2048x2x32, .f32⟩
  | 71 => ⟨S16x2048x2x32, .f32⟩
  | 72 => ⟨S16x2048x2x64, .f32⟩
  | 73 => ⟨S16x2048x128, .f32⟩
  | 74 => ⟨S16x128x2048, .f32⟩
  | 75 => ⟨S1x16x128x2048, .f32⟩
  | 76 => ⟨S16x2048x8x32, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S2048, .f32⟩
  | 88 => ⟨S2048x1, .f32⟩
  | 89 => ⟨S1x16, .f32⟩
  | 90 => ⟨S2048x16, .f32⟩
  | 91 => ⟨S2048x16, .f32⟩
  | 92 => ⟨S2048x16, .f32⟩
  | 93 => ⟨S2048x16, .f32⟩
  | 94 => ⟨S2048x1x16, .f32⟩
  | 95 => ⟨S2048x16, .f32⟩
  | 96 => ⟨S2048x1x16, .f32⟩
  | 97 => ⟨S16x2048x8x16, .f32⟩
  | 98 => ⟨S16x2048x8x16, .f32⟩
  | 99 => ⟨S1x2048x1x16, .f32⟩
  | 100 => ⟨S16x2048x8x16, .f32⟩
  | 101 => ⟨S16x2048x8x16, .f32⟩
  | 102 => ⟨S1x2048x1x16, .f32⟩
  | 103 => ⟨S16x2048x8x16, .f32⟩
  | 104 => ⟨S16x2048x8x16, .f32⟩
  | 105 => ⟨S16x2048x8x16, .f32⟩
  | 106 => ⟨S1x2048x1x16, .f32⟩
  | 107 => ⟨S16x2048x8x16, .f32⟩
  | 108 => ⟨S16x2048x8x16, .f32⟩
  | 109 => ⟨S1x2048x1x16, .f32⟩
  | 110 => ⟨S16x2048x8x16, .f32⟩
  | 111 => ⟨S16x2048x8x16, .f32⟩
  | 112 => ⟨S16x2048x8x16, .f32⟩
  | 113 => ⟨S16x2048x8x32, .f32⟩
  | 114 => ⟨S16x2048x256, .f32⟩
  | 115 => ⟨S16x256x2048, .f32⟩
  | 116 => ⟨S1x16x256x2048, .f32⟩
  | 117 => ⟨S16x2048x128, .f32⟩
  | 118 => ⟨S_, .f32⟩
  | 119 => ⟨S16x2048, .f32⟩
  | 120 => ⟨S16x2048x1, .f32⟩
  | 121 => ⟨S_, .f32⟩
  | 122 => ⟨S16x2048x1, .f32⟩
  | 123 => ⟨S16x2048x1, .f32⟩
  | 124 => ⟨S_, .f32⟩
  | 125 => ⟨S16x2048x1, .f32⟩
  | 126 => ⟨S16x2048x1, .f32⟩
  | 127 => ⟨S16x2048x1, .f32⟩
  | _ => ⟨S16x2048x1024, .f32⟩

abbrev hbmTy0_1 (i : Nat) : BufTy := match i % 128 with
  | 0 => ⟨S16x2048x128, .f32⟩
  | 1 => ⟨S16x2048x128, .f32⟩
  | 2 => ⟨S1x1x128, .f32⟩
  | 3 => ⟨S16x2048x128, .f32⟩
  | 4 => ⟨S16x2048x128, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S2048, .f32⟩
  | 16 => ⟨S2048x1, .f32⟩
  | 17 => ⟨S1x16, .f32⟩
  | 18 => ⟨S2048x16, .f32⟩
  | 19 => ⟨S2048x16, .f32⟩
  | 20 => ⟨S2048x16, .f32⟩
  | 21 => ⟨S2048x16, .f32⟩
  | 22 => ⟨S2048x16, .f32⟩
  | 23 => ⟨S16x2048x16, .f32⟩
  | 24 => ⟨S16x2048x16, .f32⟩
  | 25 => ⟨S1x2048x16, .f32⟩
  | 26 => ⟨S16x2048x16, .f32⟩
  | 27 => ⟨S16x2048x16, .f32⟩
  | 28 => ⟨S1x2048x16, .f32⟩
  | 29 => ⟨S16x2048x16, .f32⟩
  | 30 => ⟨S16x2048x16, .f32⟩
  | 31 => ⟨S16x2048x16, .f32⟩
  | 32 => ⟨S1x2048x16, .f32⟩
  | 33 => ⟨S16x2048x16, .f32⟩
  | 34 => ⟨S16x2048x16, .f32⟩
  | 35 => ⟨S1x2048x16, .f32⟩
  | 36 => ⟨S16x2048x16, .f32⟩
  | 37 => ⟨S16x2048x16, .f32⟩
  | 38 => ⟨S16x2048x16, .f32⟩
  | 39 => ⟨S16x2048x32, .f32⟩
  | 40 => ⟨S1x16x2048x128, .f32⟩
  | 41 => ⟨S16x32x2048, .f32⟩
  | 42 => ⟨S1x16x32x2048, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_5 : Ref sig .tc := ⟨.hbm, 78, rfl⟩
abbrev main_v65 : Ref sig .tc := ⟨.hbm, 79, rfl⟩
abbrev main_v66 : Ref sig .tc := ⟨.hbm, 80, rfl⟩
abbrev main_cst_6 : Ref sig .tc := ⟨.hbm, 81, rfl⟩
abbrev main_v67 : Ref sig .tc := ⟨.hbm, 82, rfl⟩
abbrev main_v68 : Ref sig .tc := ⟨.hbm, 83, rfl⟩
abbrev main_cst_7 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_8 : Ref sig .tc := ⟨.hbm, 118, rfl⟩
abbrev main_v102 : Ref sig .tc := ⟨.hbm, 119, rfl⟩
abbrev main_v103 : Ref sig .tc := ⟨.hbm, 120, rfl⟩
abbrev main_cst_9 : Ref sig .tc := ⟨.hbm, 121, rfl⟩
abbrev main_v104 : Ref sig .tc := ⟨.hbm, 122, rfl⟩
abbrev main_v105 : Ref sig .tc := ⟨.hbm, 123, rfl⟩
abbrev main_cst_10 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_cst_11 : Ref sig .tc := ⟨.hbm, 134, rfl⟩
abbrev main_v115 : Ref sig .tc := ⟨.hbm, 135, rfl⟩
abbrev main_v116 : Ref sig .tc := ⟨.hbm, 136, rfl⟩
abbrev main_cst_12 : Ref sig .tc := ⟨.hbm, 137, rfl⟩
abbrev main_v117 : Ref sig .tc := ⟨.hbm, 138, rfl⟩
abbrev main_v118 : Ref sig .tc := ⟨.hbm, 139, rfl⟩
abbrev main_cst_13 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩

abbrev nD : Nat := 1
abbrev τ : Topo := Topo.v7x

variable {F : FTy → Type} [FloatOps F]
-- ==== Proof.Online.lean ====
/- The arithmetic of one row of the softmax taken block by block, on extended reals: hand-written, untrusted. -/
module

public import Idealize.ShloMosaic.Lib.IdealHost
public import Idealize.ShloMosaic.Lib.ValueIdx

@[expose] public section

noncomputable section

namespace Cert.Online

open Idealize.ShloMosaic
open scoped BigOperators

/-- The exponential of a difference of two reals is the real one. -/
theorem exp_sub_real (a b : ℝ) : Ideal.exp ((a : EReal) - (b : EReal)) = ((Real.exp (a - b) : ℝ) : EReal) := by
  rw [← EReal.coe_sub, Ideal.exp_coe]

/-- A masked score has weight zero, whatever real is taken off it. -/
theorem exp_bot_sub_real (b : ℝ) : Ideal.exp ((⊥ : EReal) - (b : EReal)) = 0 := by
  rw [EReal.bot_sub, Ideal.exp_bot]

/-- A sum of reals, each read as an extended real, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of finitely many scores, each real or masked, is real as soon as one of them is. -/
theorem sup_real {ι : Type} (s : Finset ι) (f : ι → EReal) (hf : ∀ i ∈ s, f i ≠ ⊤) (i₀ : ι) (h₀ : i₀ ∈ s)
    (hr : f i₀ ≠ ⊥) : ∃ M : ℝ, s.sup f = (M : EReal) := by
  have ht : s.sup f ≠ ⊤ := by
    apply ne_of_lt
    rw [Finset.sup_lt_iff (by exact bot_lt_top)]
    intro i hi
    exact lt_top_iff_ne_top.2 (hf i hi)
  have hb : s.sup f ≠ ⊥ := by
    intro h
    apply hr
    have := Finset.le_sup (f := f) h₀
    rw [h] at this
    exact le_bot_iff.1 this
  exact ⟨(s.sup f).toReal, (EReal.coe_toReal ht hb).symm⟩

/-- The larger of two reals is a real. -/
theorem max_real (a b : ℝ) : max (a : EReal) (b : EReal) = ((max a b : ℝ) : EReal) :=
  (EReal.coe_strictMono.monotone.map_max).symm

/-- What a row carries after some of its keys: for SOME real `M`, the maximum is `M`, the sum is `exp (-M)` times
`L` and the weighted sum is `exp (-M)` times `N`, where `L` and `N` do not depend on `M`. -/
def Carried (m l a : EReal) (L N : ℝ) : Prop :=
  ∃ M : ℝ, m = (M : EReal) ∧ l = ((Real.exp (-M) * L : ℝ) : EReal) ∧ a = ((Real.exp (-M) * N : ℝ) : EReal)

/-- The row's quotient does not depend on the maximum taken off. -/
theorem Carried.quot {m l a : EReal} {L N : ℝ} (h : Carried m l a L N) (hL : 0 < L) :
    Ideal.div a l = ((N / L : ℝ) : EReal) := by
  obtain ⟨M, -, rfl, rfl⟩ := h
  have hp : Real.exp (-M) * L ≠ 0 := (mul_pos (Real.exp_pos _) hL).ne'
  rw [Ideal.div_coe hp, ← EReal.coe_mul]
  congr 1
  have := (Real.exp_pos (-M)).ne'
  field_simp

/-- The first block: its keys are real scores or masked, one at least real; the row's maximum is taken off each, and
what is carried are the sums over the keys that are not masked. -/
theorem carried_first {n : ℕ} (s : Fin n → EReal) (r v : Fin n → ℝ) (p : Fin n → Prop) [DecidablePred p]
    (hs : ∀ k, s k = if p k then ((r k : ℝ) : EReal) else ⊥) (k₀ : Fin n) (h₀ : p k₀) :
    Carried (Finset.univ.sup s) (∑ k, Ideal.exp (s k - Finset.univ.sup s))
      (∑ k, Ideal.exp (s k - Finset.univ.sup s) * ((v k : ℝ) : EReal))
      (∑ k, if p k then Real.exp (r k) else 0) (∑ k, if p k then Real.exp (r k) * v k else 0) := by
  obtain ⟨M, hM⟩ := sup_real Finset.univ s (fun k _ => by rw [hs]; split_ifs <;> simp) k₀ (Finset.mem_univ _)
    (by rw [hs, if_pos h₀]; simp)
  have he : ∀ k, Ideal.exp (s k - (M : EReal)) = (((if p k then Real.exp (-M) * Real.exp (r k) else 0) : ℝ) : EReal) := by
    intro k
    rw [hs]
    split_ifs with h
    · rw [exp_sub_real, ← Real.exp_add]; congr 2; ring
    · rw [exp_bot_sub_real]; simp
  refine ⟨M, hM, ?_, ?_⟩
  · simp only [hM, he]
    rw [sum_coe, Finset.mul_sum]
    congr 1
    refine Finset.sum_congr rfl fun k _ => ?_
    split_ifs <;> simp
  · simp only [hM, he, ← EReal.coe_mul]
    rw [sum_coe, Finset.mul_sum]
    congr 1
    refine Finset.sum_congr rfl fun k _ => ?_
    split_ifs <;> ring

/-- A further block of real scores: the carried maximum is raised, the carried sums are scaled down to it, and the
block's sums are added. -/
theorem Carried.step {m l a : EReal} {L N : ℝ} (h : Carried m l a L N) {n : ℕ} (s : Fin n → EReal) (r v : Fin n → ℝ)
    (hs : ∀ k, s k = ((r k : ℝ) : EReal)) (k₀ : Fin n) :
    Carried (max m (Finset.univ.sup s))
      (Ideal.exp (m - max m (Finset.univ.sup s)) * l + ∑ k, Ideal.exp (s k - max m (Finset.univ.sup s)))
      (Ideal.exp (m - max m (Finset.univ.sup s)) * a
        + ∑ k, Ideal.exp (s k - max m (Finset.univ.sup s)) * ((v k : ℝ) : EReal))
      (L + ∑ k, Real.exp (r k)) (N + ∑ k, Real.exp (r k) * v k) := by
  obtain ⟨M, rfl, rfl, rfl⟩ := h
  obtain ⟨M', hM'⟩ := sup_real Finset.univ s (fun k _ => by rw [hs]; simp) k₀ (Finset.mem_univ _) (by rw [hs]; simp)
  rw [hM', max_real]
  generalize max M M' = X
  have he : ∀ k, Ideal.exp (s k - (X : EReal)) = ((Real.exp (-X) * Real.exp (r k) : ℝ) : EReal) := by
    intro k
    rw [hs, exp_sub_real, ← Real.exp_add]; congr 2; ring
  have hx : Real.exp (M - X) * Real.exp (-M) = Real.exp (-X) := by rw [← Real.exp_add]; congr 1; ring
  refine ⟨X, rfl, ?_, ?_⟩
  · simp only [he]
    rw [sum_coe, exp_sub_real, ← EReal.coe_mul, ← EReal.coe_add, ← mul_assoc, hx, mul_add, Finset.mul_sum]
  · simp only [he, ← EReal.coe_mul]
    rw [sum_coe, exp_sub_real, ← EReal.coe_mul, ← EReal.coe_add, ← mul_assoc, hx, mul_add, Finset.mul_sum]
    simp only [mul_assoc]

/-- The softmax of a row of scores, real or masked, against values: the quotient of the two sums over the keys that are
not masked. -/
theorem softmax_row {n : ℕ} (s : Fin n → EReal) (r v : Fin n → ℝ) (p : Fin n → Prop) [DecidablePred p]
    (hs : ∀ k, s k = if p k then ((r k : ℝ) : EReal) else ⊥) (k₀ : Fin n) (h₀ : p k₀) :
    ∑ k, Ideal.div (Ideal.exp (s k - Finset.univ.sup s)) (∑ k', Ideal.exp (s k' - Finset.univ.sup s)) * ((v k : ℝ) : EReal)
      = (((∑ k, if p k then Real.exp (r k) * v k else 0) / (∑ k, if p k then Real.exp (r k) else 0) : ℝ) : EReal) := by
  obtain ⟨M, hM⟩ := sup_real Finset.univ s (fun k _ => by rw [hs]; split_ifs <;> simp) k₀ (Finset.mem_univ _)
    (by rw [hs, if_pos h₀]; simp)
  have he : ∀ k, Ideal.exp (s k - (M : EReal)) = ((Real.exp (-M) * (if p k then Real.exp (r k) else 0) : ℝ) : EReal) := by
    intro k
    rw [hs]
    split_ifs with h
    · rw [exp_sub_real, ← Real.exp_add]; congr 2; ring
    · rw [exp_bot_sub_real]; simp
  have hL : 0 < ∑ k, (if p k then Real.exp (r k) else 0) := by
    refine Finset.sum_pos' (fun k _ => by split_ifs <;> positivity) ⟨k₀, Finset.mem_univ _, ?_⟩
    rw [if_pos h₀]; exact Real.exp_pos _
  have hp : Real.exp (-M) * ∑ k, (if p k then Real.exp (r k) else 0) ≠ 0 := (mul_pos (Real.exp_pos _) hL).ne'
  simp only [hM, he]
  rw [sum_coe, ← Finset.mul_sum]
  simp only [Ideal.div_coe hp, ← EReal.coe_mul]
  rw [sum_coe, Finset.sum_div]
  congr 1
  refine Finset.sum_congr rfl fun k _ => ?_
  have := (Real.exp_pos (-M)).ne'
  have := hL.ne'
  split_ifs
  · field_simp
  · simp

end Cert.Online

end
-- ==== Proof.Rows.lean ====
module

public import proofs.«01_k».proof.Proof.Gen.KernelIdeal.Value
public import Idealize.ShloMosaic.Lib.Pipeline.ValueKit
public import proofs.«01_k».proof.Proof.Online

@[expose] public section

set_option maxRecDepth 16384

noncomputable section

open Idealize.ShloMosaic Idealize.ShloMosaic.TcCoe Idealize.SL.Sem
open Idealize.ShloMosaic.Pipeline (Dat)
open scoped BigOperators

namespace Cert.KernelIdeal.Rows

open Cert.KernelIdeal Cert.KernelIdeal.Gen

/-- One head's running row maximum, running sum of weights and running weighted sum of values. -/
abbrev Tri := FVec Ideal S256x1 .f32 × FVec Ideal S256x1 .f32 × FVec Ideal S256x128 .f32

/-- The eighteen values the loop over past blocks carries. -/
abbrev Six := FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32

/-- What one past block does to a head's three running values. -/
def step (q : FVec Ideal S256x256 .bf16) (kb : Vec Ideal S1x256x256 .bf16) (vb : Vec Ideal S1x256x128 .bf16) (s : Tri) : Tri :=
  (k0_pay3 q s.1 kb, k0_pay6 q s.1 s.2.1 kb, k0_pay7 q s.1 s.2.2 kb vb)

/-- The six heads' triples laid out as the loop carries them. -/
def heads (a b c d e f : Tri) : Six :=
  (a.1, a.2.1, a.2.2, b.1, b.2.1, b.2.2, c.1, c.2.1, c.2.2, d.1, d.2.1, d.2.2, e.1, e.2.1, e.2.2, f.1, f.2.1, f.2.2)

/-- The first block's three values for one head, from its queries and the keys and values of the block on the diagonal. -/
def first (q : FVec Ideal S256x256 .bf16) (kb : Vec Ideal S1x256x256 .bf16) (vb : Vec Ideal S1x256x128 .bf16) : Tri :=
  (k0_pay99 k0_pay84 q (k0_pay97 kb), k0_pay101 k0_pay84 q (k0_pay97 kb),
    matmul dot_S256x256_S256x128_S256x128_1_0_0_1_n_n none (truncf .bf16 (k0_pay100 k0_pay84 q (k0_pay97 kb)) bitsLt_bf16_f32)
      (shapeCast S256x128 vb shapeCasts_S1x256x128_S256x128 : FVec Ideal S256x128 .bf16) (constant S256x128 .f32 0x00000000#32))

section Loops
variable (𝒱 : Variants) (c : Dev nD) (bd : Option 𝒱.V) (i : grid0.Coords) (arg2 : Memref sig .tc .vmem S1x256x1536 .bf16) (harg2 : arg2.IsWhole)
  (arg3 : Memref sig .tc .vmem S1x2048x256 .bf16) (harg3 : arg3.IsWhole) (arg4 : Memref sig .tc .vmem S1x256x768 .bf16) (harg4 : arg4.IsWhole)
  (v5 v6 v7 v8 v9 v10 : FVec Ideal S256x256 .bf16)
  (v22 v27 v46 v51 v70 v75 v94 v99 v118 v123 v142 v147 : FVec Ideal S256x1 .f32) (v34 v58 v82 v106 v130 v154 : FVec Ideal S256x128 .f32)
  (c0_i32 v159 c1_i32_72 : BitVec 32) (X_arg3 : BufTy.Contents (Elt Ideal) arg3.view.ty)

/-- The key rows past block `k` loads. -/
def keyB (k : Fin (k0_t1_loop i).trips) : Vec Ideal S1x256x256 .bf16 :=
  View.readAt (Elt Ideal) arg3.view (Rect.unit (s := S1x2048x256) (k0_off3 i k) S1x256x256.size (k0_off3_inb i k)).toLoadRect X_arg3

/-- The value rows past block `k` loads. -/
def valB (k : Fin (k0_t1_loop i).trips) : Vec Ideal S1x256x128 .bf16 :=
  View.readAt (Elt Ideal) arg3.view (Rect.unit (s := S1x2048x256) (k0_off4 i k) S1x256x128.size (k0_off4_inb i k)).toLoadRect X_arg3

/-- A head's triple after `n` past blocks, from the triple `s` the first block left. -/
def iter (q : FVec Ideal S256x256 .bf16) (s : Tri) : ℕ → Tri
  | 0 => s
  | n + 1 => if h : n < (k0_t1_loop i).trips then step q (keyB i arg3 X_arg3 ⟨n, h⟩) (valB i arg3 X_arg3 ⟨n, h⟩) (iter q s n) else iter q s n

set_option maxHeartbeats 1000000 in
/-- One trip of the loop over past blocks is the step of each of the six heads. -/
theorem trip_heads (k : Fin (k0_t1_loop i).trips) (a b c' d e f : Tri) : tripR_k0_t1 (F := Ideal) 𝒱 c bd i arg2 harg2 arg3 harg3 arg4 harg4 v5 v6 v7 v8 v9 v10 v22 v27 v34 v46 v51 v58 v70 v75 v82 v94 v99 v106 v118 v123 v130 v142 v147 v154 c0_i32 v159 c1_i32_72 X_arg3 k (heads a b c' d e f)
    = heads (step v5 (keyB i arg3 X_arg3 k) (valB i arg3 X_arg3 k) a) (step v6 (keyB i arg3 X_arg3 k) (valB i arg3 X_arg3 k) b)
        (step v7 (keyB i arg3 X_arg3 k) (valB i arg3 X_arg3 k) c') (step v8 (keyB i arg3 X_arg3 k) (valB i arg3 X_arg3 k) d)
        (step v9 (keyB i arg3 X_arg3 k) (valB i arg3 X_arg3 k) e) (step v10 (keyB i arg3 X_arg3 k) (valB i arg3 X_arg3 k) f) := by
  unfold tripR_k0_t1 trip_k0_t1
  dsimp only [heads]
  rfl

/-- The loop's state after `n` past blocks is the six heads' iterated triples. -/
theorem state_heads (a b c' d e f : Tri) (n : ℕ) (hn : n ≤ (k0_t1_loop i).trips) :
    st_k0_t1 (F := Ideal) 𝒱 c bd i arg2 harg2 arg3 harg3 arg4 harg4 v5 v6 v7 v8 v9 v10 v22 v27 v34 v46 v51 v58 v70 v75 v82 v94 v99 v106 v118 v123 v130 v142 v147 v154 c0_i32 v159 c1_i32_72 X_arg3 (heads a b c' d e f) n
      = heads (iter i arg3 X_arg3 v5 a n) (iter i arg3 X_arg3 v6 b n) (iter i arg3 X_arg3 v7 c' n) (iter i arg3 X_arg3 v8 d n)
          (iter i arg3 X_arg3 v9 e n) (iter i arg3 X_arg3 v10 f n) := by
  induction n with
  | zero => exact st_k0_t1_zero ..
  | succ n ih =>
    have h := st_k0_t1_succ (F := Ideal) 𝒱 c bd i arg2 harg2 arg3 harg3 arg4 harg4 v5 v6 v7 v8 v9 v10 v22 v27 v34 v46 v51 v58 v70 v75 v82 v94 v99 v106 v118 v123 v130 v142 v147 v154 c0_i32 v159 c1_i32_72 X_arg3 (heads a b c' d e f) ⟨n, hn⟩
    dsimp only at h
    rw [h, ih (by omega), trip_heads]
    simp only [iter, dif_pos (show n < (k0_t1_loop i).trips from hn)]

end Loops

/-- The remainder of the loop over past blocks is empty at every grid point. -/
theorem rest_zero : ∀ i : grid0.Coords, (k0_t2_loop i).trips = 0 := by decide +kernel

/-- The loop over past blocks runs once for each block before the diagonal. -/
theorem past_trips : ∀ i : grid0.Coords, (k0_t1_loop i).trips = (i 1).val := by decide +kernel

/-- The output block as six stores, each a head's weighted sum over its sum of weights. -/
theorem out_pieces (c : Dev nD) (i : grid0.Coords) (arg2 : Memref sig .tc .vmem S1x256x1536 .bf16) (harg2 : arg2.IsWhole)
    (arg3 : Memref sig .tc .vmem S1x2048x256 .bf16) (harg3 : arg3.IsWhole) (arg4 : Memref sig .tc .vmem S1x256x768 .bf16) (harg4 : arg4.IsWhole)
    (x0 : Vec Ideal S1x256x1536 .bf16) (x1 : Vec Ideal S1x2048x256 .bf16) :
    ∃ S : Six, out0_A_2 c i arg2 harg2 arg3 harg3 arg4 harg4 x0 x1
      = VO0_2.read (Elt Ideal) (VO0_2.writes (Elt Ideal) VO0_2.junk
        [⟨Rect.unit (s := S1x256x768) ![0, 0, 640] S1x256x128.size (by decide), k0_pay127 S.2.2.2.2.2.2.2.2.2.2.2.2.2.2.2.2.1 S.2.2.2.2.2.2.2.2.2.2.2.2.2.2.2.2.2⟩,
         ⟨Rect.unit (s := S1x256x768) ![0, 0, 512] S1x256x128.size (by decide), k0_pay127 S.2.2.2.2.2.2.2.2.2.2.2.2.2.1 S.2.2.2.2.2.2.2.2.2.2.2.2.2.2.1⟩,
         ⟨Rect.unit (s := S1x256x768) ![0, 0, 384] S1x256x128.size (by decide), k0_pay127 S.2.2.2.2.2.2.2.2.2.2.1 S.2.2.2.2.2.2.2.2.2.2.2.1⟩,
         ⟨Rect.unit (s := S1x256x768) ![0, 0, 256] S1x256x128.size (by decide), k0_pay127 S.2.2.2.2.2.2.2.1 S.2.2.2.2.2.2.2.2.1⟩,
         ⟨Rect.unit (s := S1x256x768) ![0, 0, 128] S1x256x128.size (by decide), k0_pay127 S.2.2.2.2.1 S.2.2.2.2.2.1⟩,
         ⟨Rect.unit (s := S1x256x768) ![0, 0, 0] S1x256x128.size (by decide), k0_pay127 S.2.1 S.2.2.1⟩])
      ∧ (let q : Vec Ideal S1x256x1536 .bf16 := View.readAt (Elt Ideal) arg2.view (Rect.unit (s := S1x256x1536) ![0, 0, 0] S1x256x1536.size (by decide)).toLoadRect (harg2.unread x0)
         let X := harg3.unread x1
         let kb : Vec Ideal S1x256x256 .bf16 := View.readAt (Elt Ideal) arg3.view (Rect.unit (s := S1x2048x256) (k0_off1 i) S1x256x256.size (k0_off1_inb i)).toLoadRect X
         let vb : Vec Ideal S1x256x128 .bf16 := View.readAt (Elt Ideal) arg3.view (Rect.unit (s := S1x2048x256) (k0_off2 i) S1x256x128.size (k0_off2_inb i)).toLoadRect X
         let f := fun qh : FVec Ideal S256x256 .bf16 => iter i arg3 X qh (first qh kb vb) (k0_t1_loop i).trips
         S = heads (f (k0_pay86 q)) (f (k0_pay87 q)) (f (k0_pay88 q)) (f (k0_pay89 q)) (f (k0_pay90 q)) (f (k0_pay91 q))) := by
  unfold out0_A_2 kernelRun0_A
  dsimp only
  refine ⟨_, rfl, ?_⟩
  dsimp only
  refine (congrArg _ (rest_zero i)).trans ?_
  refine (st_k0_t2_zero ..).trans ?_
  have eta : ∀ s : Six, ((s.1, s.2.1, s.2.2.1, s.2.2.2.1, s.2.2.2.2.1, s.2.2.2.2.2.1, s.2.2.2.2.2.2.1, s.2.2.2.2.2.2.2.1, s.2.2.2.2.2.2.2.2.1, s.2.2.2.2.2.2.2.2.2.1, s.2.2.2.2.2.2.2.2.2.2.1, s.2.2.2.2.2.2.2.2.2.2.2.1, s.2.2.2.2.2.2.2.2.2.2.2.2.1, s.2.2.2.2.2.2.2.2.2.2.2.2.2.1, s.2.2.2.2.2.2.2.2.2.2.2.2.2.2.1, s.2.2.2.2.2.2.2.2.2.2.2.2.2.2.2.1, s.2.2.2.2.2.2.2.2.2.2.2.2.2.2.2.2.1, s.2.2.2.2.2.2.2.2.2.2.2.2.2.2.2.2.2) : Six) = s := fun _ => rfl
  refine (eta _).trans ?_
  have h0 : (((kernelRun0_A.sl.r_6 c i arg2 harg2 arg3 harg3 x0 x1), (kernelRun0_A.sl.r_7 c i arg2 harg2 arg3 harg3 x0 x1), (kernelRun0_A.sl.r_8 c i arg2 harg2 arg3 harg3 x0 x1)) : Tri) = first (kernelRun0_A.sl.r c arg2 harg2 x0) (View.readAt (Elt Ideal) arg3.view (Rect.unit (s := S1x2048x256) (k0_off1 i) S1x256x256.size (k0_off1_inb i)).toLoadRect (harg3.unread x1)) (View.readAt (Elt Ideal) arg3.view (Rect.unit (s := S1x2048x256) (k0_off2 i) S1x256x128.size (k0_off2_inb i)).toLoadRect (harg3.unread x1)) := rfl
  have h1 : (((kernelRun0_A.sl.r_10 c i arg2 harg2 arg3 harg3 x0 x1), (kernelRun0_A.sl.r_11 c i arg2 harg2 arg3 harg3 x0 x1), (kernelRun0_A.sl.r_12 c i arg2 harg2 arg3 harg3 x0 x1)) : Tri) = first (kernelRun0_A.sl.r_1 c arg2 harg2 x0) (View.readAt (Elt Ideal) arg3.view (Rect.unit (s := S1x2048x256) (k0_off1 i) S1x256x256.size (k0_off1_inb i)).toLoadRect (harg3.unread x1)) (View.readAt (Elt Ideal) arg3.view (Rect.unit (s := S1x2048x256) (k0_off2 i) S1x256x128.size (k0_off2_inb i)).toLoadRect (harg3.unread x1)) := rfl
  have h2 : (((kernelRun0_A.sl.r_13 c i arg2 harg2 arg3 harg3 x0 x1), (kernelRun0_A.sl.r_14 c i arg2 harg2 arg3 harg3 x0 x1), (kernelRun0_A.sl.r_16 c i arg2 harg2 arg3 harg3 x0 x1)) : Tri) = first (kernelRun0_A.sl.r_2 c arg2 harg2 x0) (View.readAt (Elt Ideal) arg3.view (Rect.unit (s := S1x2048x256) (k0_off1 i) S1x256x256.size (k0_off1_inb i)).toLoadRect (harg3.unread x1)) (View.readAt (Elt Ideal) arg3.view (Rect.unit (s := S1x2048x256) (k0_off2 i) S1x256x128.size (k0_off2_inb i)).toLoadRect (harg3.unread x1)) := rfl
  have h3 : (((kernelRun0_A.sl.r_17 c i arg2 harg2 arg3 harg3 x0 x1), (kernelRun0_A.sl.r_18 c i arg2 harg2 arg3 harg3 x0 x1), (kernelRun0_A.sl.r_19 c i arg2 harg2 arg3 harg3 x0 x1)) : Tri) = first (kernelRun0_A.sl.r_3 c arg2 harg2 x0) (View.readAt (Elt Ideal) arg3.view (Rect.unit (s := S1x2048x256) (k0_off1 i) S1x256x256.size (k0_off1_inb i)).toLoadRect (harg3.unread x1)) (View.readAt (Elt Ideal) arg3.view (Rect.unit (s := S1x2048x256) (k0_off2 i) S1x256x128.size (k0_off2_inb i)).toLoadRect (harg3.unread x1)) := rfl
  have h4 : (((kernelRun0_A.sl.r_21 c i arg2 harg2 arg3 harg3 x0 x1), (kernelRun0_A.sl.r_23 c i arg2 harg2 arg3 harg3 x0 x1), (kernelRun0_A.sl.r_24 c i arg2 harg2 arg3 harg3 x0 x1)) : Tri) = first (kernelRun0_A.sl.r_4 c arg2 harg2 x0) (View.readAt (Elt Ideal) arg3.view (Rect.unit (s := S1x2048x256) (k0_off1 i) S1x256x256.size (k0_off1_inb i)).toLoadRect (harg3.unread x1)) (View.readAt (Elt Ideal) arg3.view (Rect.unit (s := S1x2048x256) (k0_off2 i) S1x256x128.size (k0_off2_inb i)).toLoadRect (harg3.unread x1)) := rfl
  have h5 : (((kernelRun0_A.sl.r_25 c i arg2 harg2 arg3 harg3 x0 x1), (kernelRun0_A.sl.r_26 c i arg2 harg2 arg3 harg3 x0 x1), (kernelRun0_A.sl.r_27 c i arg2 harg2 arg3 harg3 x0 x1)) : Tri) = first (kernelRun0_A.sl.r_5 c arg2 harg2 x0) (View.readAt (Elt Ideal) arg3.view (Rect.unit (s := S1x2048x256) (k0_off1 i) S1x256x256.size (k0_off1_inb i)).toLoadRect (harg3.unread x1)) (View.readAt (Elt Ideal) arg3.view (Rect.unit (s := S1x2048x256) (k0_off2 i) S1x256x128.size (k0_off2_inb i)).toLoadRect (harg3.unread x1)) := rfl
  have key := state_heads Variants.none c none i arg2 harg2 arg3 harg3 arg4 harg4 (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c i arg2 harg2 arg3 harg3 x0 x1) (kernelRun0_A.sl.r_7 c i arg2 harg2 arg3 harg3 x0 x1) (kernelRun0_A.sl.r_10 c i arg2 harg2 arg3 harg3 x0 x1) (kernelRun0_A.sl.r_11 c i arg2 harg2 arg3 harg3 x0 x1) (kernelRun0_A.sl.r_13 c i arg2 harg2 arg3 harg3 x0 x1) (kernelRun0_A.sl.r_14 c i arg2 harg2 arg3 harg3 x0 x1) (kernelRun0_A.sl.r_17 c i arg2 harg2 arg3 harg3 x0 x1) (kernelRun0_A.sl.r_18 c i arg2 harg2 arg3 harg3 x0 x1) (kernelRun0_A.sl.r_21 c i arg2 harg2 arg3 harg3 x0 x1) (kernelRun0_A.sl.r_23 c i arg2 harg2 arg3 harg3 x0 x1) (kernelRun0_A.sl.r_25 c i arg2 harg2 arg3 harg3 x0 x1) (kernelRun0_A.sl.r_26 c i arg2 harg2 arg3 harg3 x0 x1) (kernelRun0_A.sl.r_8 c i arg2 harg2 arg3 harg3 x0 x1) (kernelRun0_A.sl.r_12 c i arg2 harg2 arg3 harg3 x0 x1) (kernelRun0_A.sl.r_16 c i arg2 harg2 arg3 harg3 x0 x1) (kernelRun0_A.sl.r_19 c i arg2 harg2 arg3 harg3 x0 x1) (kernelRun0_A.sl.r_24 c i arg2 harg2 arg3 harg3 x0 x1) (kernelRun0_A.sl.r_27 c i arg2 harg2 arg3 harg3 x0 x1) 0#32 (kernelRun0_A.sl.v159 i) 1#32 (harg3.unread x1) ((kernelRun0_A.sl.r_6 c i arg2 harg2 arg3 harg3 x0 x1), (kernelRun0_A.sl.r_7 c i arg2 harg2 arg3 harg3 x0 x1), (kernelRun0_A.sl.r_8 c i arg2 harg2 arg3 harg3 x0 x1)) ((kernelRun0_A.sl.r_10 c i arg2 harg2 arg3 harg3 x0 x1), (kernelRun0_A.sl.r_11 c i arg2 harg2 arg3 harg3 x0 x1), (kernelRun0_A.sl.r_12 c i arg2 harg2 arg3 harg3 x0 x1)) ((kernelRun0_A.sl.r_13 c i arg2 harg2 arg3 harg3 x0 x1), (kernelRun0_A.sl.r_14 c i arg2 harg2 arg3 harg3 x0 x1), (kernelRun0_A.sl.r_16 c i arg2 harg2 arg3 harg3 x0 x1)) ((kernelRun0_A.sl.r_17 c i arg2 harg2 arg3 harg3 x0 x1), (kernelRun0_A.sl.r_18 c i arg2 harg2 arg3 harg3 x0 x1), (kernelRun0_A.sl.r_19 c i arg2 harg2 arg3 harg3 x0 x1)) ((kernelRun0_A.sl.r_21 c i arg2 harg2 arg3 harg3 x0 x1), (kernelRun0_A.sl.r_23 c i arg2 harg2 arg3 harg3 x0 x1), (kernelRun0_A.sl.r_24 c i arg2 harg2 arg3 harg3 x0 x1)) ((kernelRun0_A.sl.r_25 c i arg2 harg2 arg3 harg3 x0 x1), (kernelRun0_A.sl.r_26 c i arg2 harg2 arg3 harg3 x0 x1), (kernelRun0_A.sl.r_27 c i arg2 harg2 arg3 harg3 x0 x1)) (k0_t1_loop i).trips le_rfl
  rw [h0, h1, h2, h3, h4, h5] at key
  have ht : (k0_t1_loop i).trips = Scf.trips (0#32) (Scalar.addi (0#32) (Scalar.muli (Scalar.divsi (Scalar.subi (BitVec.ofNat 32 ↑(i 1)) 0#32) 1#32) 1#32)) 1#32 := rfl
  rw [ht] at key ⊢
  generalize Scf.trips (0#32) (Scalar.addi (0#32) (Scalar.muli (Scalar.divsi (Scalar.subi (BitVec.ofNat 32 ↑(i 1)) 0#32) 1#32) 1#32)) 1#32 = N at key ⊢
  refine Eq.trans ?_ (key.trans ?_)
  · rw [← h0, ← h1, ← h2, ← h3, ← h4, ← h5]
    dsimp only [heads]
  · rfl

end Cert.KernelIdeal.Rows
end
-- ==== Proof.Flash.lean ====
module

public import proofs.«01_k».proof.Proof.Rows
@[expose] public section

set_option maxRecDepth 16384

noncomputable section

open Idealize.ShloMosaic Idealize.ShloMosaic.TcCoe Idealize.SL.Sem
open scoped BigOperators
namespace Cert.KernelIdeal.Rows
open Cert.KernelIdeal Cert.KernelIdeal.Gen Cert.Online

/-- The starting value of a row maximum is below everything. -/
theorem ninf : Ideal.ofBits .f32 0xFF800000#32 = (⊥ : EReal) := by simp [Ideal.ofBits, Ideal.ieee]

/-- The scores' scale is a real number. -/
theorem scale_real : ∃ c : ℝ, Ideal.ofBits .f32 0x3DD105EC#32 = (c : EReal) := by
  simp only [Ideal.ofBits, Ideal.ieee]
  exact ⟨_, rfl⟩

/-- The scores' scale, as a real. -/
def cs : ℝ := scale_real.choose

/-- The printed scale is that real. -/
theorem scale_eq : Ideal.ofBits .f32 0x3DD105EC#32 = ((cs : ℝ) : EReal) := scale_real.choose_spec

/-- The named mask value is minus infinity. -/
theorem mask_bot : (Named.named κ "mask" 0xF149F2CA#32 : Ideal .f32) = (⊥ : EReal) := by
  simp [Named.named, κ]

/-- Choosing on "key at or before query" of two small words is choosing on the numbers. -/
theorem pick (a b : ℕ) (ha : a < 2 ^ 31) (hb : b < 2 ^ 31) (x y : EReal) :
    Scalar.select (IntOp.cmpi .sle (BitVec.ofNat 32 a) (BitVec.ofNat 32 b)) x y = if a ≤ b then x else y := by
  have h := WordCmp.cmpi_sle_ofNat_eq_one_iff (w := 32) (a := a) (b := b) ha hb
  unfold Scalar.select
  by_cases hab : a ≤ b
  · rw [if_pos hab]
    exact if_pos (h.2 hab)
  · rw [if_neg hab]
    exact if_neg (fun e => hab (h.1 e))

/-- A real query's score against a real key is real. -/
theorem score_real {n : ℕ} (q kb : Fin n → EReal) (qr kr : Fin n → ℝ) (hq : ∀ d, q d = ((qr d : ℝ) : EReal))
    (hk : ∀ d, kb d = ((kr d : ℝ) : EReal)) :
    (∑ d, q d * kb d) * Ideal.ofBits .f32 0x3DD105EC#32 = (((∑ d, qr d * kr d) * cs : ℝ) : EReal) := by
  simp only [hq, hk, scale_eq, ← EReal.coe_mul]
  rw [sum_coe, ← EReal.coe_mul]

/-- Taking a running maximum from minus infinity is taking the largest. -/
theorem fold_sup {n : ℕ} (f : Fin n → EReal) : Finset.fold max (⊥ : EReal) f Finset.univ = Finset.univ.sup f := rfl

section One
variable (q : FVec Ideal S256x256 .bf16) (kb : Vec Ideal S1x256x256 .bf16) (vb : Vec Ideal S1x256x128 .bf16)
  (r : Fin 256) (c : Fin 128) (qr : Fin 256 → ℝ) (kr : Fin 256 → Fin 256 → ℝ) (vr : Fin 256 → ℝ)
  (hq : ∀ d : Fin 256, q (ix2 r d) = ((qr d : ℝ) : EReal)) (hk : ∀ x d : Fin 256, kb (ix3 0 x d) = ((kr x d : ℝ) : EReal))
  (hv : ∀ x : Fin 256, vb (ix3 0 x c) = ((vr x : ℝ) : EReal))
include hq hk hv

/-- One past block keeps what a row carries, with the block's keys added. -/
theorem step_carried (s : Tri) (L N : ℝ) (h : Carried (s.1 (ix2 r 0)) (s.2.1 (ix2 r 0)) (s.2.2 (ix2 r c)) L N) :
    Carried ((step q kb vb s).1 (ix2 r 0)) ((step q kb vb s).2.1 (ix2 r 0)) ((step q kb vb s).2.2 (ix2 r c))
      (L + ∑ x, Real.exp ((∑ d, qr d * kr x d) * cs)) (N + ∑ x, Real.exp ((∑ d, qr d * kr x d) * cs) * vr x) := by
  have hs : ∀ x : Fin 256, k0_pay2 q kb (ix2 r x) = (((∑ d, qr d * kr x d) * cs : ℝ) : EReal) := by
    intro x
    rw [← score_real (fun d => q (ix2 r d)) (fun d => kb (ix3 0 x d)) qr (kr x) hq (hk x)]
    pointwise [k0_pay2]
  have e1 : k0_pay3 q s.1 kb (ix2 r 0) = max (s.1 (ix2 r 0)) (Finset.univ.sup fun x : Fin 256 => k0_pay2 q kb (ix2 r x)) := by
    pointwise [k0_pay3]
    rw [ninf]; rfl
  have e2 : (step q kb vb s).2.1 (ix2 r 0) = Ideal.exp (s.1 (ix2 r 0) - k0_pay3 q s.1 kb (ix2 r 0)) * s.2.1 (ix2 r 0)
      + ∑ x : Fin 256, Ideal.exp (k0_pay2 q kb (ix2 r x) - k0_pay3 q s.1 kb (ix2 r 0)) := by
    pointwise [step, k0_pay6, k0_pay5, k0_pay4]
  have e3 : (step q kb vb s).2.2 (ix2 r c) = Ideal.exp (s.1 (ix2 r 0) - k0_pay3 q s.1 kb (ix2 r 0)) * s.2.2 (ix2 r c)
      + ∑ x : Fin 256, Ideal.exp (k0_pay2 q kb (ix2 r x) - k0_pay3 q s.1 kb (ix2 r 0)) * ((vr x : ℝ) : EReal) := by
    pointwise [step, k0_pay7, k0_pay5, k0_pay4]
    simp only [hv]
  rw [show (step q kb vb s).1 (ix2 r 0) = k0_pay3 q s.1 kb (ix2 r 0) from rfl, e2, e3, e1]
  exact h.step (fun x : Fin 256 => k0_pay2 q kb (ix2 r x)) (fun x => (∑ d, qr d * kr x d) * cs) vr hs 0

/-- What a row carries after the block on the diagonal: its own keys and those before it in the block. -/
theorem first_carried :
    Carried ((first q kb vb).1 (ix2 r 0)) ((first q kb vb).2.1 (ix2 r 0)) ((first q kb vb).2.2 (ix2 r c))
      (∑ x : Fin 256, if x.val ≤ r.val then Real.exp ((∑ d, qr d * kr x d) * cs) else 0)
      (∑ x : Fin 256, if x.val ≤ r.val then Real.exp ((∑ d, qr d * kr x d) * cs) * vr x else 0) := by
  have hs : ∀ x : Fin 256, k0_pay98 k0_pay84 q (k0_pay97 kb) (ix2 r x)
      = if x.val ≤ r.val then (((∑ d, qr d * kr x d) * cs : ℝ) : EReal) else ⊥ := by
    intro x
    rw [← score_real (fun d => q (ix2 r d)) (fun d => kb (ix3 0 x d)) qr (kr x) hq (hk x)]
    pointwise [k0_pay98, k0_pay84, k0_pay97]
    rw [pick _ _ (by omega) (by omega), mask_bot]
  have e1 : k0_pay99 k0_pay84 q (k0_pay97 kb) (ix2 r 0)
      = Finset.univ.sup fun x : Fin 256 => k0_pay98 k0_pay84 q (k0_pay97 kb) (ix2 r x) := by
    pointwise [k0_pay99]
    rw [ninf]; rfl
  have e2 : (first q kb vb).2.1 (ix2 r 0)
      = ∑ x : Fin 256, Ideal.exp (k0_pay98 k0_pay84 q (k0_pay97 kb) (ix2 r x) - k0_pay99 k0_pay84 q (k0_pay97 kb) (ix2 r 0)) := by
    pointwise [first, k0_pay101, k0_pay100]
  have e3 : (first q kb vb).2.2 (ix2 r c)
      = ∑ x : Fin 256, Ideal.exp (k0_pay98 k0_pay84 q (k0_pay97 kb) (ix2 r x) - k0_pay99 k0_pay84 q (k0_pay97 kb) (ix2 r 0))
          * ((vr x : ℝ) : EReal) := by
    pointwise [first, k0_pay100]
    simp only [hv]
  have e0 : (first q kb vb).1 (ix2 r 0) = k0_pay99 k0_pay84 q (k0_pay97 kb) (ix2 r 0) := by dsimp only [first]
  rw [e0, e2, e3, e1]
  exact carried_first (fun x : Fin 256 => k0_pay98 k0_pay84 q (k0_pay97 kb) (ix2 r x)) (fun x => (∑ d, qr d * kr x d) * cs) vr
    (fun x => x.val ≤ r.val) hs r le_rfl

end One

/-- What a row carries after `n` past blocks, from what the diagonal block left. -/
theorem iter_carried (i : grid0.Coords) (arg3 : Memref sig .tc .vmem S1x2048x256 .bf16) (X : BufTy.Contents (Elt Ideal) arg3.view.ty)
    (q : FVec Ideal S256x256 .bf16) (s : Tri) (r : Fin 256) (c : Fin 128) (qr : Fin 256 → ℝ) (kv : ℕ → Fin 256 → ℝ) (vr : ℕ → ℝ)
    (hq : ∀ d : Fin 256, q (ix2 r d) = ((qr d : ℝ) : EReal))
    (hk : ∀ (k : Fin (k0_t1_loop i).trips) (x d : Fin 256), keyB i arg3 X k (ix3 0 x d) = ((kv (256 * k.val + x.val) d : ℝ) : EReal))
    (hv : ∀ (k : Fin (k0_t1_loop i).trips) (x : Fin 256), valB i arg3 X k (ix3 0 x c) = ((vr (256 * k.val + x.val) : ℝ) : EReal))
    (L N : ℝ) (h : Carried (s.1 (ix2 r 0)) (s.2.1 (ix2 r 0)) (s.2.2 (ix2 r c)) L N) (n : ℕ) (hn : n ≤ (k0_t1_loop i).trips) :
    Carried ((iter i arg3 X q s n).1 (ix2 r 0)) ((iter i arg3 X q s n).2.1 (ix2 r 0)) ((iter i arg3 X q s n).2.2 (ix2 r c))
      (L + ∑ t ∈ Finset.range n, ∑ x : Fin 256, Real.exp ((∑ d, qr d * kv (256 * t + x.val) d) * cs))
      (N + ∑ t ∈ Finset.range n, ∑ x : Fin 256, Real.exp ((∑ d, qr d * kv (256 * t + x.val) d) * cs) * vr (256 * t + x.val)) := by
  induction n with
  | zero => simpa [iter] using h
  | succ n ih =>
    have hn' : n < (k0_t1_loop i).trips := hn
    have h' := step_carried q (keyB i arg3 X ⟨n, hn'⟩) (valB i arg3 X ⟨n, hn'⟩) r c qr (fun x => kv (256 * n + x.val))
      (fun x => vr (256 * n + x.val)) hq (hk ⟨n, hn'⟩) (hv ⟨n, hn'⟩) _ _ _ (ih (by omega))
    rw [Finset.sum_range_succ, Finset.sum_range_succ, ← add_assoc, ← add_assoc]
    simp only [iter, dif_pos hn']
    exact h'

/-- Splitting a causal sum over 2048 keys at query `256 j + r`: the diagonal block's part and the blocks before it. -/
theorem causal_split (f : ℕ → ℝ) (j : ℕ) (hj : j < 8) (r : Fin 256) :
    (∑ k : Fin 2048, if k.val ≤ 256 * j + r.val then f k.val else 0)
      = (∑ x : Fin 256, if x.val ≤ r.val then f (256 * j + x.val) else 0) + ∑ t ∈ Finset.range j, ∑ x : Fin 256, f (256 * t + x.val) := by
  have h8 : (∑ k : Fin 2048, if k.val ≤ 256 * j + r.val then f k.val else 0)
      = ∑ t ∈ Finset.range 8, ∑ x : Fin 256, if 256 * t + x.val ≤ 256 * j + r.val then f (256 * t + x.val) else 0 := by
    rw [← Fin.sum_univ_eq_sum_range (fun t => ∑ x : Fin 256, if 256 * t + x.val ≤ 256 * j + r.val then f (256 * t + x.val) else 0) 8]
    rw [Fin.sum_univ_tiles 8 256 rfl (fun k : Fin 2048 => if k.val ≤ 256 * j + r.val then f k.val else 0)]
    refine Finset.sum_congr rfl fun t _ => Finset.sum_congr rfl fun x _ => ?_
    simp only [Nat.mul_comm 256]
  rw [h8, ← Finset.sum_subset (Finset.range_subset_range.2 (show j + 1 ≤ 8 by omega)), Finset.sum_range_succ, add_comm]
  · congr 1
    · refine Finset.sum_congr rfl fun x _ => ?_
      by_cases hx : x.val ≤ r.val
      · rw [if_pos hx, if_pos (by omega)]
      · rw [if_neg hx, if_neg (by omega)]
    · refine Finset.sum_congr rfl fun t ht => Finset.sum_congr rfl fun x _ => ?_
      have := Finset.mem_range.1 ht
      rw [if_pos (by have := x.isLt; omega)]
  · intro t _ ht
    have := Finset.mem_range.not.1 ht
    refine Finset.sum_eq_zero fun x _ => ?_
    rw [if_neg (by have := r.isLt; omega)]

end Cert.KernelIdeal.Rows
end
-- ==== Proof.RefRows.lean ====
module

public import proofs.«01_k».proof.Proof.Gen.ReferenceIdeal.Run
public import Idealize.ShloMosaic.Lib.Pipeline.ValueKit
public import proofs.«01_k».proof.Proof.Flash
@[expose] public section

set_option maxRecDepth 16384

noncomputable section

open Idealize.ShloMosaic Idealize.ShloMosaic.TcCoe Idealize.SL.Sem
open scoped BigOperators
namespace Cert.ReferenceIdeal.Rows
open Cert.ReferenceIdeal Cert.ReferenceIdeal.Gen Cert.Online
open Cert.KernelIdeal.Rows (cs ninf pick score_real)

/-- The reference's masked scores, from its two arguments. -/
def scores (a0 : FVec Ideal S16x2048x1536 .bf16) (a1 : FVec Ideal S16x2048x256 .bf16) : FVec Ideal S16x6x2048x2048 .f32 :=
  select (broadcastInDim S16x6x2048x2048 ![2, 3] bcast_S2048x2048_S16x6x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (transpose S16x6x2048x2048 [0, 3, 2, 1] (Host.dotGeneral dot_S16x2048x128_S16x2048x6x128_S16x2048x2048x6_2_3_1_12_0_0 none (extractStridedSlice S16x2048x128 ![0, 0, 0] (extf .f32 a1 bitsLt_bf16_f32) slices_S16x2048x256_S16x2048x128_0_0_0) (extractStridedSlice S16x2048x6x128 ![0, 0, 0, 0] (shapeCast _ (extf .f32 a0 bitsLt_bf16_f32) shapeCasts_S16x2048x1536_S16x2048x6x256) slices_S16x2048x6x256_S16x2048x6x128_0_0_0_0)) transposes_S16x2048x2048x6_S16x6x2048x2048_0_3_2_1) (transpose S16x6x2048x2048 [0, 3, 2, 1] (Host.dotGeneral dot_S16x2048x128_S16x2048x6x128_S16x2048x2048x6_2_3_1_12_0_0 none (extractStridedSlice S16x2048x128 ![0, 0, 128] (extf .f32 a1 bitsLt_bf16_f32) slices_S16x2048x256_S16x2048x128_0_0_128) (extractStridedSlice S16x2048x6x128 ![0, 0, 0, 128] (shapeCast _ (extf .f32 a0 bitsLt_bf16_f32) shapeCasts_S16x2048x1536_S16x2048x6x256) slices_S16x2048x6x256_S16x2048x6x128_0_0_0_128)) transposes_S16x2048x2048x6_S16x6x2048x2048_0_3_2_1)) (broadcastInDim S16x6x2048x2048 ![] bcast_S_S16x6x2048x2048 (constant S_ .f32 0x3DD105EC#32))) (broadcastInDim S16x6x2048x2048 ![] bcast_S_S16x6x2048x2048 (id (constant S_ .f32 0xFF800000#32)))

/-- The largest score of a row. -/
def rowMax (a0 : FVec Ideal S16x2048x1536 .bf16) (a1 : FVec Ideal S16x2048x256 .bf16) : FVec Ideal S16x6x2048 .f32 :=
  maximumf (broadcastInDim S16x6x2048 ![] bcast_S_S16x6x2048 (constant S_ .f32 0xFF800000#32)) (Host.reduce FloatOps.maximumf (scores a0 a1) (constant S_ .f32 0xFF800000#32) reducesTo_S16x6x2048x2048_S16x6x2048_d3 h_S_)

/-- The exponentials of the scores, the largest taken off. -/
def weights (a0 : FVec Ideal S16x2048x1536 .bf16) (a1 : FVec Ideal S16x2048x256 .bf16) : FVec Ideal S16x6x2048x2048 .f32 :=
  Host.exp (subf (scores a0 a1) (broadcastInDim S16x6x2048x2048 ![0, 1, 2, 3] bcast_S16x6x2048x1_S16x6x2048x2048_0_1_2_3 (broadcastInDim S16x6x2048x1 ![0, 1, 2] bcast_S16x6x2048_S16x6x2048x1_0_1_2 (rowMax a0 a1))))

/-- A row's sum of exponentials. -/
def rowSum (a0 : FVec Ideal S16x2048x1536 .bf16) (a1 : FVec Ideal S16x2048x256 .bf16) : FVec Ideal S16x6x2048 .f32 :=
  Host.reduceAdd (weights a0 a1) (constant S_ .f32 0x00000000#32) reducesTo_S16x6x2048x2048_S16x6x2048_d3 h_S_

/-- The softmax of the scores. -/
def probs (a0 : FVec Ideal S16x2048x1536 .bf16) (a1 : FVec Ideal S16x2048x256 .bf16) : FVec Ideal S16x6x2048x2048 .f32 :=
  Host.divf (weights a0 a1) (broadcastInDim S16x6x2048x2048 ![0, 1, 2, 3] bcast_S16x6x2048x1_S16x6x2048x2048_0_1_2_3 (broadcastInDim S16x6x2048x1 ![0, 1, 2] bcast_S16x6x2048_S16x6x2048x1_0_1_2 (rowSum a0 a1)))

/-- The softmax applied to the values. -/
def mixed (a0 : FVec Ideal S16x2048x1536 .bf16) (a1 : FVec Ideal S16x2048x256 .bf16) : FVec Ideal S16x128x6x2048 .f32 :=
  Host.dotGeneral dot_S16x2048x128_S16x6x2048x2048_S16x128x6x2048_1_3_2_12_0_0 none (extractStridedSlice S16x2048x128 ![0, 0, 0] (extf .f32 a1 bitsLt_bf16_f32) slices_S16x2048x256_S16x2048x128_0_0_0) (probs a0 a1)

/-- The reference's result, from its two arguments. -/
def REF (a0 : FVec Ideal S16x2048x1536 .bf16) (a1 : FVec Ideal S16x2048x256 .bf16) : FVec Ideal S16x2048x768 .bf16 :=
  truncf .bf16 (shapeCast _ (transpose S16x2048x6x128 [0, 3, 2, 1] (mixed a0 a1) transposes_S16x128x6x2048_S16x2048x6x128_0_3_2_1) shapeCasts_S16x2048x6x128_S16x2048x768) bitsLt_bf16_f32

/-- The reference run's result is that term of its arguments. -/
theorem res_eq (m : (ℓ : Loc nD τ sig) → Buf (Elt Ideal) ℓ) (c : Dev nD) :
    Cert.ReferenceIdeal.Value.res_main_v35 (F := Ideal) m c = REF (m ((c.tc : Thread nD τ).loc main_arg0)) (m ((c.tc : Thread nD τ).loc main_arg1)) := by
  unfold Cert.ReferenceIdeal.Value.res_main_v35 REF mixed probs rowSum weights rowMax scores
  rfl

/-- A maximum along the last of four axes, read at a row. -/
theorem max_last {n0 n1 n2 n3 : ℕ} {u : Shape} (v : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) v init h hu (ix3 a b c)
      = (Finset.univ : Finset (Fin n3)).fold max (init (Shape.Idx.first hu)) (fun k => v (ix4 a b c k)) := by
  rw [Host.reduce_eq_fold, Shape.ReducesTo.fold_fiber_r4_a3]
  rfl

/-- The maximum with a splat, at an index. -/
theorem max_splat (g : FVec Ideal S16x6x2048 .f32) (x : S16x6x2048.Idx) :
    maximumf (broadcastInDim S16x6x2048 ![] bcast_S_S16x6x2048 (constant S_ .f32 0xFF800000#32)) g x
      = max (Ideal.ofBits .f32 0xFF800000#32) (g x) := by
  rfl

section At
variable (a0 : FVec Ideal S16x2048x1536 .bf16) (a1 : FVec Ideal S16x2048x256 .bf16)

/-- A row's largest score. -/
theorem rowMax_at (b : Fin 16) (h : Fin 6) (i : Fin 2048) :
    rowMax a0 a1 (ix3 b h i) = Finset.univ.sup fun k : Fin 2048 => scores a0 a1 (ix4 b h i k) := by
  have key := max_last (n0 := 16) (n1 := 6) (n2 := 2048) (n3 := 2048) (u := S_) (scores a0 a1)
    (constant (F := Ideal) S_ .f32 0xFF800000#32) reducesTo_S16x6x2048x2048_S16x6x2048_d3 h_S_ b h i
  have e : (constant (F := Ideal) S_ .f32 0xFF800000#32) (Shape.Idx.first h_S_) = (⊥ : EReal) := ninf
  rw [e] at key
  unfold rowMax
  rw [max_splat, ninf]
  refine (congrArg (max ⊥) key).trans ?_
  rw [max_eq_right bot_le]
  rfl

/-- A row's weight at a key. -/
theorem weights_at (b : Fin 16) (h : Fin 6) (i k : Fin 2048) :
    weights a0 a1 (ix4 b h i k) = Ideal.exp (scores a0 a1 (ix4 b h i k) - rowMax a0 a1 (ix3 b h i)) := by
  pointwise [weights]

/-- A row's sum of weights. -/
theorem rowSum_at (b : Fin 16) (h : Fin 6) (i : Fin 2048) :
    rowSum a0 a1 (ix3 b h i) = ∑ k : Fin 2048, weights a0 a1 (ix4 b h i k) := by
  pointwise [rowSum]

/-- A row's probability at a key. -/
theorem probs_at (b : Fin 16) (h : Fin 6) (i k : Fin 2048) :
    probs a0 a1 (ix4 b h i k) = Ideal.div (weights a0 a1 (ix4 b h i k)) (rowSum a0 a1 (ix3 b h i)) := by
  pointwise [probs]

/-- A row's mixed values. -/
theorem mixed_at (b : Fin 16) (v : Fin 128) (h : Fin 6) (i : Fin 2048) :
    mixed a0 a1 (ix4 b v h i) = ∑ k : Fin 2048, a1 (ix3 b k ⟨v.val, by omega⟩) * probs a0 a1 (ix4 b h i k) := by
  pointwise [mixed]

/-- The result at an index is its head's mixed value. -/
theorem REF_at (b : Fin 16) (i : Fin 2048) (j : Fin 768) :
    REF a0 a1 (ix3 b i j) = mixed a0 a1 (ix4 b ⟨j.val % 128, by omega⟩ ⟨j.val / 128, by omega⟩ i) := by
  pointwise [REF]

/-- A score is real where the key is at or before the query, and masked elsewhere. -/
theorem scores_at (A0 : S16x2048x1536.Idx → ℝ) (A1 : S16x2048x256.Idx → ℝ) (h0 : ∀ x, a0 x = ((A0 x : ℝ) : EReal))
    (h1 : ∀ x, a1 x = ((A1 x : ℝ) : EReal)) (b : Fin 16) (h : Fin 6) (i k : Fin 2048) :
    scores a0 a1 (ix4 b h i k) = if k.val ≤ i.val then
      (((∑ d : Fin 256, A0 (ix3 b i ⟨h.val * 256 + d.val, by omega⟩) * A1 (ix3 b k d)) * cs : ℝ) : EReal) else ⊥ := by
  rw [← score_real (fun d : Fin 256 => a0 (ix3 b i ⟨h.val * 256 + d.val, by omega⟩)) (fun d : Fin 256 => a1 (ix3 b k d))
    (fun d : Fin 256 => A0 (ix3 b i ⟨h.val * 256 + d.val, by omega⟩)) (fun d : Fin 256 => A1 (ix3 b k d)) (fun d => h0 _) (fun d => h1 _)]
  have hs : (∑ d : Fin 256, a0 (ix3 b i ⟨h.val * 256 + d.val, by omega⟩) * a1 (ix3 b k d) : EReal)
      = (∑ x : Fin 128, a1 (ix3 b k ⟨x.val, by omega⟩) * a0 (ix3 b i ⟨h.val * 256 + x.val, by omega⟩))
        + ∑ x : Fin 128, a1 (ix3 b k ⟨128 + x.val, by omega⟩) * a0 (ix3 b i ⟨h.val * 256 + (128 + x.val), by omega⟩) := by
    rw [Fin.sum_univ_two_halves 128 128 rfl]
    congr 1 <;> exact Finset.sum_congr rfl fun x _ => mul_comm _ _
  rw [hs]
  pointwise [scores]
  rw [pick _ _ (by omega) (by omega)]
  by_cases hki : k.val ≤ i.val
  · rw [if_pos hki, if_pos hki]
  · rw [if_neg hki, if_neg hki]
    exact ninf

/-- The reference at an index, from real arguments: over the keys at or before the query, the sum of the exponentials of
the scores times the values, over the sum of the exponentials. -/
theorem REF_real (A0 : S16x2048x1536.Idx → ℝ) (A1 : S16x2048x256.Idx → ℝ) (h0 : ∀ x, a0 x = ((A0 x : ℝ) : EReal))
    (h1 : ∀ x, a1 x = ((A1 x : ℝ) : EReal)) (b : Fin 16) (i : Fin 2048) (j : Fin 768) :
    REF a0 a1 (ix3 b i j)
      = (((∑ k : Fin 2048, if k.val ≤ i.val then
            Real.exp ((∑ d : Fin 256, A0 (ix3 b i ⟨j.val / 128 * 256 + d.val, by omega⟩) * A1 (ix3 b k d)) * cs)
              * A1 (ix3 b k ⟨j.val % 128, by omega⟩) else 0)
          / (∑ k : Fin 2048, if k.val ≤ i.val then
            Real.exp ((∑ d : Fin 256, A0 (ix3 b i ⟨j.val / 128 * 256 + d.val, by omega⟩) * A1 (ix3 b k d)) * cs) else 0) : ℝ) : EReal) := by
  rw [REF_at, mixed_at]
  have hsm := softmax_row (fun k : Fin 2048 => scores a0 a1 (ix4 b ⟨j.val / 128, by omega⟩ i k))
    (fun k => (∑ d : Fin 256, A0 (ix3 b i ⟨j.val / 128 * 256 + d.val, by omega⟩) * A1 (ix3 b k d)) * cs)
    (fun k => A1 (ix3 b k ⟨j.val % 128, by omega⟩)) (fun k => k.val ≤ i.val)
    (fun k => scores_at a0 a1 A0 A1 h0 h1 b ⟨j.val / 128, by omega⟩ i k) i le_rfl
  rw [← hsm]
  refine Finset.sum_congr rfl fun k _ => ?_
  rw [probs_at, rowSum_at, weights_at, rowMax_at, mul_comm, h1]
  simp only [weights_at, rowMax_at]

end At

end Cert.ReferenceIdeal.Rows
end
-- ==== Proof.Blocks.lean ====
module

public import proofs.«01_k».proof.Proof.RefRows
public import Idealize.ShloMosaic.Lib.WholeRead
@[expose] public section

set_option maxRecDepth 16384

noncomputable section

open Idealize.ShloMosaic Idealize.ShloMosaic.TcCoe Idealize.SL.Sem
open scoped BigOperators
namespace Cert.KernelIdeal.Rows
open Cert.KernelIdeal Cert.KernelIdeal.Gen Cert.Online

/-- The causal softmax of a query's scores applied to values, as a quotient of two sums over the keys up to `n`. -/
def att (qr : Fin 256 → ℝ) (K : ℕ → Fin 256 → ℝ) (V : ℕ → ℝ) (n : ℕ) : ℝ :=
  (∑ k : Fin 2048, if k.val ≤ n then Real.exp ((∑ d, qr d * K k.val d) * cs) * V k.val else 0)
    / (∑ k : Fin 2048, if k.val ≤ n then Real.exp ((∑ d, qr d * K k.val d) * cs) else 0)

/-- Rows `o …` of an array of one batch element, entry by entry. -/
theorem at_rows {n : ℕ} (X : Vec Ideal S1x2048x256 .bf16) (off : Fin 3 → ℕ) (o : ℕ) (ho : off = ![0, o, 0])
    (inb : ∀ a, off a + (⟨3, ![1, 256, n]⟩ : Shape).size a ≤ S1x2048x256.size a) (x : Fin 256) (d : Fin n) (h : o + x.val < 2048) (hd : d.val < 256) :
    X ((Rect.unit (s := S1x2048x256) off (⟨3, ![1, 256, n]⟩ : Shape).size inb).toLoadRect.idx (ix3 0 x d))
      = X (ix3 0 ⟨o + x.val, h⟩ ⟨d.val, hd⟩) := by
  subst ho
  refine congrArg X (funext fun a => Fin.ext ?_)
  match a with
  | 0 => show 0 + 1 * 0 = 0; rfl
  | 1 => show o + 1 * x.val = o + x.val; omega
  | 2 => show 0 + 1 * d.val = d.val; omega

section Loads
variable (i : grid0.Coords) (arg3 : Memref sig .tc .vmem S1x2048x256 .bf16) (harg3 : arg3.IsWhole) (x1 : Vec Ideal S1x2048x256 .bf16)

/-- The diagonal block's key rows, entry by entry. -/
theorem own_key (x d : Fin 256) (h : 256 * (i 1).val + x.val < 2048) :
    View.readAt (Elt Ideal) arg3.view (Rect.unit (s := S1x2048x256) (k0_off1 i) S1x256x256.size (k0_off1_inb i)).toLoadRect (harg3.unread x1)
      (ix3 0 x d) = x1 (ix3 0 ⟨256 * (i 1).val + x.val, h⟩ d) := by
  refine (Memref.IsWhole.readAt_unread harg3 x1 _ _).trans ?_
  exact at_rows x1 _ _ (k0_off1_eq i) _ x d h _

/-- The diagonal block's value rows, entry by entry. -/
theorem own_val (x : Fin 256) (d : Fin 128) (h : 256 * (i 1).val + x.val < 2048) :
    View.readAt (Elt Ideal) arg3.view (Rect.unit (s := S1x2048x256) (k0_off2 i) S1x256x128.size (k0_off2_inb i)).toLoadRect (harg3.unread x1)
      (ix3 0 x d) = x1 (ix3 0 ⟨256 * (i 1).val + x.val, h⟩ ⟨d.val, by omega⟩) := by
  refine (Memref.IsWhole.readAt_unread harg3 x1 _ _).trans ?_
  exact at_rows x1 _ _ (k0_off2_eq i) _ x d h _

/-- A past block's key rows, entry by entry. -/
theorem past_key (k : Fin (k0_t1_loop i).trips) (x d : Fin 256) (h : 256 * k.val + x.val < 2048) :
    keyB i arg3 (harg3.unread x1) k (ix3 0 x d) = x1 (ix3 0 ⟨256 * k.val + x.val, h⟩ d) := by
  refine (Memref.IsWhole.readAt_unread harg3 x1 _ _).trans ?_
  exact at_rows x1 _ _ (k0_off3_eq i k) _ x d h _

/-- A past block's value rows, entry by entry. -/
theorem past_val (k : Fin (k0_t1_loop i).trips) (x : Fin 256) (d : Fin 128) (h : 256 * k.val + x.val < 2048) :
    valB i arg3 (harg3.unread x1) k (ix3 0 x d) = x1 (ix3 0 ⟨256 * k.val + x.val, h⟩ ⟨d.val, by omega⟩) := by
  refine (Memref.IsWhole.readAt_unread harg3 x1 _ _).trans ?_
  exact at_rows x1 _ _ (k0_off4_eq i k) _ x d h _

/-- A head's weighted sum over its sum of weights is the causal softmax of the head's query. -/
theorem head_real (qh : FVec Ideal S256x256 .bf16) (r : Fin 256) (c : Fin 128) (qr : Fin 256 → ℝ) (K : ℕ → Fin 256 → ℝ)
    (hq : ∀ d : Fin 256, qh (ix2 r d) = ((qr d : ℝ) : EReal))
    (hK : ∀ (n : Fin 2048) (d : Fin 256), x1 (ix3 0 n d) = ((K n.val d : ℝ) : EReal)) (T : Tri)
    (hT : T = iter i arg3 (harg3.unread x1) qh (first qh
      (View.readAt (Elt Ideal) arg3.view (Rect.unit (s := S1x2048x256) (k0_off1 i) S1x256x256.size (k0_off1_inb i)).toLoadRect (harg3.unread x1))
      (View.readAt (Elt Ideal) arg3.view (Rect.unit (s := S1x2048x256) (k0_off2 i) S1x256x128.size (k0_off2_inb i)).toLoadRect (harg3.unread x1)))
      (k0_t1_loop i).trips) :
    Ideal.div (T.2.2 (ix2 r c)) (T.2.1 (ix2 r 0))
      = ((att qr K (fun n => K n ⟨c.val, by omega⟩) (256 * (i 1).val + r.val) : ℝ) : EReal) := by
  have hi : (i 1).val < 8 := (i 1).isLt
  have ht := past_trips i
  have h1 := first_carried qh
      (View.readAt (Elt Ideal) arg3.view (Rect.unit (s := S1x2048x256) (k0_off1 i) S1x256x256.size (k0_off1_inb i)).toLoadRect (harg3.unread x1))
      (View.readAt (Elt Ideal) arg3.view (Rect.unit (s := S1x2048x256) (k0_off2 i) S1x256x128.size (k0_off2_inb i)).toLoadRect (harg3.unread x1))
      r c qr (fun x => K (256 * (i 1).val + x.val)) (fun x => K (256 * (i 1).val + x.val) ⟨c.val, by omega⟩) hq
      (fun x d => (own_key i arg3 harg3 x1 x d (by omega)).trans (hK _ _))
      (fun x => (own_val i arg3 harg3 x1 x c (by omega)).trans (hK _ _))
  have h2 := iter_carried i arg3 (harg3.unread x1) qh _ r c qr K (fun n => K n ⟨c.val, by omega⟩) hq
      (fun k x d => (past_key i arg3 harg3 x1 k x d (by have := k.isLt; omega)).trans (hK _ _))
      (fun k x => (past_val i arg3 harg3 x1 k x c (by have := k.isLt; omega)).trans (hK _ _)) _ _ h1 (k0_t1_loop i).trips le_rfl
  rw [← hT, ht] at h2
  have eL := causal_split (fun n => Real.exp ((∑ d, qr d * K n d) * cs)) (i 1).val hi r
  have eN := causal_split (fun n => Real.exp ((∑ d, qr d * K n d) * cs) * K n ⟨c.val, by omega⟩) (i 1).val hi r
  rw [← eL, ← eN] at h2
  refine h2.quot ?_
  refine Finset.sum_pos' (fun k _ => ?_) ⟨0, Finset.mem_univ _, ?_⟩
  · split_ifs
    · exact (Real.exp_pos _).le
    · exact le_rfl
  · rw [if_pos (by simp)]
    exact Real.exp_pos _

end Loads

/-- What a store of a head holds at an index. -/
theorem pay127_at (l : FVec Ideal S256x1 .f32) (a : FVec Ideal S256x128 .f32) (r : Fin 256) (k : Fin 128) :
    k0_pay127 l a (ix3 0 r k) = Ideal.div (a (ix2 r k)) (l (ix2 r 0)) := by
  pointwise [k0_pay127]

section Queries
variable (x : Vec Ideal S1x256x1536 .bf16) (r d : Fin 256)

/-- The first head's queries. -/
theorem q0 : k0_pay86 (F := Ideal) x (ix2 r d) = x (ix3 0 r ⟨0 * 256 + d.val, by omega⟩) := by pointwise [k0_pay86, k0_pay85]; try blk_ext
/-- The second head's queries. -/
theorem q1 : k0_pay87 (F := Ideal) x (ix2 r d) = x (ix3 0 r ⟨1 * 256 + d.val, by omega⟩) := by pointwise [k0_pay87, k0_pay85]; try blk_ext
/-- The third head's queries. -/
theorem q2 : k0_pay88 (F := Ideal) x (ix2 r d) = x (ix3 0 r ⟨2 * 256 + d.val, by omega⟩) := by pointwise [k0_pay88, k0_pay85]; try blk_ext
/-- The fourth head's queries. -/
theorem q3 : k0_pay89 (F := Ideal) x (ix2 r d) = x (ix3 0 r ⟨3 * 256 + d.val, by omega⟩) := by pointwise [k0_pay89, k0_pay85]; try blk_ext
/-- The fifth head's queries. -/
theorem q4 : k0_pay90 (F := Ideal) x (ix2 r d) = x (ix3 0 r ⟨4 * 256 + d.val, by omega⟩) := by pointwise [k0_pay90, k0_pay85]; try blk_ext
/-- The sixth head's queries. -/
theorem q5 : k0_pay91 (F := Ideal) x (ix2 r d) = x (ix3 0 r ⟨5 * 256 + d.val, by omega⟩) := by pointwise [k0_pay91, k0_pay85]; try blk_ext

end Queries

end Cert.KernelIdeal.Rows
end
-- ==== Proof.Attention.lean ====
module

public import proofs.«01_k».proof.Proof.Blocks
public import proofs.«01_k».proof.Proof.Gen.KernelIdeal.Value
public import proofs.«01_k».proof.Proof.Gen.Pre_finite
public import Idealize.ShloMosaic.Lib.Claim
@[expose] public section

set_option maxRecDepth 16384

noncomputable section

open Idealize.ShloMosaic Idealize.ShloMosaic.TcCoe Idealize.SL.Sem
open scoped BigOperators
namespace Cert.KernelIdeal.Rows
open Cert.KernelIdeal Cert.KernelIdeal.Gen Cert.Online

variable (m : (ℓ : Loc nD τ sig) → Buf (Elt Ideal) ℓ)

/-- The blocks' places in the arrays: a batch element and 256 of its rows; a batch element; a batch element and 256 of its rows. -/
theorem idx : ∀ t : Fin cfg0.N, win0_0.index t = ![t.val / 8, t.val % 8, 0]
    ∧ win0_1.index t = ![t.val / 8, 0, 0]
    ∧ win0_2.index t = ![t.val / 8, t.val % 8, 0] ∧ (grid0.coords t 1).val = t.val % 8 :=
  (by decide +kernel : ∀ t : Fin grid0.N, _)

/-- The queries' block, entry by entry. -/
theorem query_block (c : Dev nD) (t : Fin cfg0.N) (ht : t.val < 128) (r : Fin 256) (e : Fin 1536) :
    View.readAt (Elt Ideal) (ms0_0 t).view (Rect.unit (s := S1x256x1536) ![0, 0, 0] S1x256x1536.size (by decide)).toLoadRect ((hs0_0 t).unread (iblk m c 0 t))
      (ix3 0 r e) = m ((c : Thread nD τ).loc main_arg0) (ix3 ⟨t.val / 8, by omega⟩ ⟨t.val % 8 * 256 + r.val, by omega⟩ e) := by
  refine (Memref.IsWhole.readAt_unread (hs0_0 t) (iblk m c 0 t) _ _).trans ?_
  have e0 : (Rect.unit (s := S1x256x1536) ![0, 0, 0] S1x256x1536.size (by decide)).toLoadRect.idx (ix3 0 r e) = ix3 0 r e := funext fun a => Fin.ext (by
    match a with
    | 0 => rfl
    | 1 => show 0 + 1 * r.val = r.val; omega
    | 2 => show 0 + 1 * e.val = e.val; omega)
  refine (congrArg (iblk m c 0 t) e0).trans ?_
  blk_ext [iblk, V, idx t]

/-- The keys' block, entry by entry. -/
theorem key_block (c : Dev nD) (t : Fin cfg0.N) (ht : t.val < 128) (n : Fin 2048) (d : Fin 256) :
    iblk m c 1 t (ix3 0 n d) = m ((c : Thread nD τ).loc main_arg1) (ix3 ⟨t.val / 8, by omega⟩ n d) := by
  blk_ext [iblk, V, idx t]

section Real
variable (A0 : S16x2048x1536.Idx → ℝ) (A1 : S16x2048x256.Idx → ℝ)

/-- A store of a head, at its own index, is the reference's entry, when queries and keys are real. -/
theorem core (c : Dev nD)
    (h0 : ∀ x : S16x2048x1536.Idx, m ((c : Thread nD τ).loc main_arg0) x = ((A0 x : ℝ) : EReal))
    (h1 : ∀ x : S16x2048x256.Idx, m ((c : Thread nD τ).loc main_arg1) x = ((A1 x : ℝ) : EReal))
    (t : Fin cfg0.N) (ht : t.val < 128) (h : Fin 6) (qh : FVec Ideal S256x256 .bf16)
    (hqh : ∀ r d : Fin 256, qh (ix2 r d) = (View.readAt (Elt Ideal) (ms0_0 t).view (Rect.unit (s := S1x256x1536) ![0, 0, 0] S1x256x1536.size (by decide)).toLoadRect ((hs0_0 t).unread (iblk m c 0 t)) : Vec Ideal S1x256x1536 .bf16)
      (ix3 0 r ⟨h.val * 256 + d.val, by omega⟩)) (T : Tri)
    (hT : T = iter (grid0.coords t) (ms0_1 t) ((hs0_1 t).unread (iblk m c 1 t)) qh (first qh
      (View.readAt (Elt Ideal) (ms0_1 t).view (Rect.unit (s := S1x2048x256) (k0_off1 (grid0.coords t)) S1x256x256.size (k0_off1_inb (grid0.coords t))).toLoadRect ((hs0_1 t).unread (iblk m c 1 t)))
      (View.readAt (Elt Ideal) (ms0_1 t).view (Rect.unit (s := S1x2048x256) (k0_off2 (grid0.coords t)) S1x256x128.size (k0_off2_inb (grid0.coords t))).toLoadRect ((hs0_1 t).unread (iblk m c 1 t))))
      (k0_t1_loop (grid0.coords t)).trips)
    (r : Fin 256) (k : Fin 128) (i : Fin 2048) (j : Fin 768) (hi : i.val = t.val % 8 * 256 + r.val) (hj : j.val = h.val * 128 + k.val) :
    k0_pay127 T.2.1 T.2.2 (ix3 0 r k)
      = Cert.ReferenceIdeal.Rows.REF (m ((c : Thread nD τ).loc main_arg0)) (m ((c : Thread nD τ).loc main_arg1)) (ix3 ⟨t.val / 8, by omega⟩ i j) := by
  rw [pay127_at, Cert.ReferenceIdeal.Rows.REF_real _ _ A0 A1 h0 h1]
  rw [head_real (grid0.coords t) (ms0_1 t) (hs0_1 t) (iblk m c 1 t) qh r k
    (fun d => A0 (ix3 ⟨t.val / 8, by omega⟩ i ⟨h.val * 256 + d.val, by omega⟩))
    (fun n d => if hn : n < 2048 then A1 (ix3 ⟨t.val / 8, by omega⟩ ⟨n, hn⟩ d) else 0)
    (fun d => by
      rw [hqh, query_block m c t ht, h0]
      congr 3
      exact Fin.ext hi.symm)
    (fun n d => by rw [key_block m c t ht, h1, dif_pos n.isLt]) T hT]
  have e1 : j.val / 128 = h.val := by omega
  have e2 : j.val % 128 = k.val := by omega
  have e3 : 256 * (grid0.coords t 1).val + r.val = i.val := by rw [(idx t).2.2.2]; omega
  simp only [att, e1, e2, e3, Fin.is_lt, dif_pos, Fin.eta]

/-- The output block at an index is the reference's entry, when queries and keys are real. -/
theorem point (c : Dev nD)
    (hA0 : ∀ x : S16x2048x1536.Idx, m ((c : Thread nD τ).loc main_arg0) x = ((A0 x : ℝ) : EReal))
    (hA1 : ∀ x : S16x2048x256.Idx, m ((c : Thread nD τ).loc main_arg1) x = ((A1 x : ℝ) : EReal))
    (t : Fin cfg0.N) (ht : t.val < 128) (y : S1x256x768.Idx) (i : Fin 2048) (j : Fin 768) (hi : i.val = t.val % 8 * 256 + (y 1).val) (hj : j.val = (y 2).val) :
    outsAt0 m c t y = Cert.ReferenceIdeal.Rows.REF (m ((c : Thread nD τ).loc main_arg0)) (m ((c : Thread nD τ).loc main_arg1))
      (ix3 ⟨t.val / 8, by omega⟩ i j) := by
  unfold outsAt0
  obtain ⟨S, hout, hS⟩ := out_pieces c (grid0.coords t) (ms0_0 t) (hs0_0 t) (ms0_1 t) (hs0_1 t) (ms0_2 t) (hs0_2 t) (iblk m c 0 t) (iblk m c 1 t)
  rw [hout]
  clear hout
  frame_out
  have hx : ∀ x : S1x256x128.Idx, x = ix3 0 (x 1) (x 2) := fun x => funext fun a => Fin.ext (by
    match a with
    | 0 => exact Nat.lt_one_iff.1 (x 0).isLt
    | 1 => rfl
    | 2 => rfl)
  subst hS
  canon_tiles x h
  case piece0 => rw [hx x]; exact core m A0 A1 c hA0 hA1 t ht 5 _ (q5 _) _ rfl (x 1) (x 2) i j (by omega) (by rw [hj, h2]; rfl)
  case piece1 => rw [hx x]; exact core m A0 A1 c hA0 hA1 t ht 4 _ (q4 _) _ rfl (x 1) (x 2) i j (by omega) (by rw [hj, h2]; rfl)
  case piece2 => rw [hx x]; exact core m A0 A1 c hA0 hA1 t ht 3 _ (q3 _) _ rfl (x 1) (x 2) i j (by omega) (by rw [hj, h2]; rfl)
  case piece3 => rw [hx x]; exact core m A0 A1 c hA0 hA1 t ht 2 _ (q2 _) _ rfl (x 1) (x 2) i j (by omega) (by rw [hj, h2]; rfl)
  case piece4 => rw [hx x]; exact core m A0 A1 c hA0 hA1 t ht 1 _ (q1 _) _ rfl (x 1) (x 2) i j (by omega) (by rw [hj, h2]; rfl)
  case piece5 => rw [hx x]; exact core m A0 A1 c hA0 hA1 t ht 0 _ (q0 _) _ rfl (x 1) (x 2) i j (by omega) (by rw [hj, h2]; simp)

/-- The kernel's result array is the reference's, when queries and keys are real. -/
theorem final (c : Dev nD)
    (h0 : ∀ x : S16x2048x1536.Idx, m ((c : Thread nD τ).loc main_arg0) x = ((A0 x : ℝ) : EReal))
    (h1 : ∀ x : S16x2048x256.Idx, m ((c : Thread nD τ).loc main_arg1) x = ((A1 x : ℝ) : EReal)) :
    (dats m 0 c).arrAt 2 (cfgs 0).N = Cert.ReferenceIdeal.Rows.REF (m ((c : Thread nD τ).loc main_arg0)) (m ((c : Thread nD τ).loc main_arg1)) := by
  refine (dats m 0 c).arrAt_eq_of_covers 2 _ (by decide +kernel) fun t hf y => ?_
  blk_simp
  rw [after0_2]
  have ht : t.val < 128 := lt_of_lt_of_eq t.isLt N_0
  refine (point m A0 A1 c h0 h1 t ht y ⟨t.val % 8 * 256 + (y 1).val, ?_⟩ (y 2) rfl rfl).trans ?_
  · have : (y 1).val < 256 := (y 1).isLt
    omega
  · blk_ext [idx t]

end Real

end Cert.KernelIdeal.Rows
end
-- ==== Proof.Algebra.lean ====
module

public import proofs.«01_k».proof.Defs
public import proofs.«01_k».proof.Proof.Attention
@[expose] public section

set_option maxRecDepth 16384

noncomputable section

open Idealize.ShloMosaic Idealize.ShloMosaic.TcCoe Idealize.SL.Sem
open scoped BigOperators
namespace Cert.KernelIdeal.Rows
open Cert.KernelIdeal Cert.KernelIdeal.Gen Cert.Online

/-- The bound of the precondition is plus infinity. -/
theorem pinf : Ideal.ofBits .f32 0x7F800000#32 = (⊤ : EReal) := by simp [Ideal.ofBits, Ideal.ieee]

/-- A number whose absolute value is below plus infinity is real. -/
theorem real_of_abs {x : EReal} (h : FloatOps.cmpf (F := Ideal) (φ := .f32) .olt (FloatOps.absf (F := Ideal) (φ := .f32) x) (Ideal.ofBits .f32 0x7F800000#32) = 1#1) :
    x = ((x.toReal : ℝ) : EReal) := by
  rw [pinf] at h
  have h' : Ideal.cmp .olt (max x (-x)) (⊤ : EReal) = 1#1 := h
  have hlt : max x (-x) < (⊤ : EReal) := by
    by_contra hn
    simp [Ideal.cmp, hn] at h'
  rw [EReal.coe_toReal]
  · rintro rfl; simp at hlt
  · rintro rfl; simp at hlt

/-- Under the precondition every query and every key is real. -/
theorem reals (m : (ℓ : Loc nD τ sig) → Buf (Elt Ideal) ℓ) (h : Cert.Pre_KernelIdeal_finite m) (c : Dev nD) :
    (∀ x : S16x2048x1536.Idx, m ((c : Thread nD τ).loc main_arg0) x = (((m ((c : Thread nD τ).loc main_arg0) x : EReal).toReal : ℝ) : EReal))
    ∧ ∀ x : S16x2048x256.Idx, m ((c : Thread nD τ).loc main_arg1) x = (((m ((c : Thread nD τ).loc main_arg1) x : EReal).toReal : ℝ) : EReal) :=
  ⟨fun x => real_of_abs (congrFun (h c).1 x), fun x => real_of_abs (congrFun (h c).2 x)⟩

end Cert.KernelIdeal.Rows

namespace Cert.Proof

open Cert.KernelIdeal.Rows in
/-- The kernel and the reference end with the same results. -/
theorem attention_equal : Cert.algebraic_KernelIdeal_ReferenceIdeal_pre_finite := by
  intro m g m' g' hpre hag
  refine ⟨fun c => (Cert.KernelIdeal.Gen.dats m 0 c).arrAt 2 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  rw [Cert.ReferenceIdeal.Rows.res_eq, (hag c).1, (hag c).2]
  exact (final m _ _ c (reals m hpre c).1 (reals m hpre c).2).symm

end Cert.Proof
end
-- ==== Proof.MixRef.lean ====
module

public import proofs.«01_k».proof.Proof.Gen.Reference2Ideal.Run
public import Idealize.ShloMosaic.Lib.Pipeline.ValueKit
@[expose] public section

set_option maxRecDepth 16384

noncomputable section

open Idealize.ShloMosaic Idealize.ShloMosaic.TcCoe Idealize.SL.Sem
open scoped BigOperators
namespace Cert.Reference2Ideal.Mix
open Cert.Reference2Ideal Cert.Reference2Ideal.Gen

/-- The root mean square norm of a row, times a gain. -/
def rms (y g : Fin 1024 → EReal) (n : Fin 1024) : EReal :=
  y n * Ideal.rsqrt (Ideal.div (∑ k, y k * y k) (Ideal.ofBits .f32 0x44800000#32) + Ideal.ofBits .f32 0x358637BD#32) * g n

/-- What 1024 of the MLP's inner activations give to an output. -/
def chunk (h : Fin 1024 → EReal) (u d : Fin 1024 → Fin 1024 → EReal) (n : Fin 1024) : EReal :=
  ∑ f, max (∑ a, h a * u a f) 0 * max (∑ a, h a * u a f) 0 * d f n

/-- The latent attention's values, projected up. -/
def MLA (a3 : FVec Ideal S32768x768 .bf16) (a4 : FVec Ideal S128x6x64 .f32) : FVec Ideal S32768x384 .f32 :=
  shapeCast _ (transpose S32768x6x64 [2, 0, 1] (Host.dotGeneral dot_S128x6x64_S32768x6x128_S6x64x32768_0_2_2_0_1_1 none a4 (shapeCast _ (extf .f32 a3 bitsLt_bf16_f32) shapeCasts_S32768x768_S32768x6x128)) transposes_S6x64x32768_S32768x6x64_2_0_1) shapeCasts_S32768x6x64_S32768x384

/-- The residual after the three attentions' output projection. -/
def X1 (a0 : FVec Ideal S32768x1024 .f32) (a1 : FVec Ideal S32768x384 .bf16) (a2 : FVec Ideal S32768x256 .bf16) (a3 : FVec Ideal S32768x768 .bf16) (a4 : FVec Ideal S128x6x64 .f32) (a5 : FVec Ideal S1024x1024 .f32) : FVec Ideal S32768x1024 .f32 :=
  addf a0 (Host.dotGeneral dot_S32768x1024_S1024x1024_S32768x1024_1_0_0_1_n_n none ((concatenate S32768x1024 1 [⟨S32768x384, ((extf .f32 a1 bitsLt_bf16_f32) : FVec Ideal S32768x384 .f32)⟩, ⟨S32768x256, ((extf .f32 a2 bitsLt_bf16_f32) : FVec Ideal S32768x256 .f32)⟩, ⟨S32768x384, ((MLA a3 a4) : FVec Ideal S32768x384 .f32)⟩] concatenates_S32768x384_S32768x256_S32768x384_S32768x1024_d1 : FVec Ideal S32768x1024 .f32)) a5)

/-- Its norm. -/
def H (a0 : FVec Ideal S32768x1024 .f32) (a1 : FVec Ideal S32768x384 .bf16) (a2 : FVec Ideal S32768x256 .bf16) (a3 : FVec Ideal S32768x768 .bf16) (a4 : FVec Ideal S128x6x64 .f32) (a5 : FVec Ideal S1024x1024 .f32) (a6 : FVec Ideal S1024 .f32) : FVec Ideal S32768x1024 .f32 :=
  mulf (mulf (X1 a0 a1 a2 a3 a4 a5) (broadcastInDim S32768x1024 ![0, 1] bcast_S32768x1_S32768x1024_0_1 (Host.rsqrt (addf (Host.divf (broadcastInDim S32768x1 ![0] bcast_S32768_S32768x1_0 (Host.reduceAdd (mulf (X1 a0 a1 a2 a3 a4 a5) (X1 a0 a1 a2 a3 a4 a5)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a6))

/-- The MLP's inner activations before the square. -/
def UP (a0 : FVec Ideal S32768x1024 .f32) (a1 : FVec Ideal S32768x384 .bf16) (a2 : FVec Ideal S32768x256 .bf16) (a3 : FVec Ideal S32768x768 .bf16) (a4 : FVec Ideal S128x6x64 .f32) (a5 : FVec Ideal S1024x1024 .f32) (a6 : FVec Ideal S1024 .f32) (a7 : FVec Ideal S1024x4096 .f32) : FVec Ideal S32768x4096 .f32 :=
  maximumf (Host.dotGeneral dot_S32768x1024_S1024x4096_S32768x4096_1_0_0_1_n_n none (H a0 a1 a2 a3 a4 a5 a6) a7) (broadcastInDim S32768x4096 ![] bcast_S_S32768x4096 (constant S_ .f32 0x00000000#32))

/-- The residual after the MLP. -/
def X2 (a0 : FVec Ideal S32768x1024 .f32) (a1 : FVec Ideal S32768x384 .bf16) (a2 : FVec Ideal S32768x256 .bf16) (a3 : FVec Ideal S32768x768 .bf16) (a4 : FVec Ideal S128x6x64 .f32) (a5 : FVec Ideal S1024x1024 .f32) (a6 : FVec Ideal S1024 .f32) (a7 : FVec Ideal S1024x4096 .f32) (a8 : FVec Ideal S4096x1024 .f32) : FVec Ideal S32768x1024 .f32 :=
  addf (X1 a0 a1 a2 a3 a4 a5) (Host.dotGeneral dot_S32768x4096_S4096x1024_S32768x1024_1_0_0_1_n_n none (mulf (UP a0 a1 a2 a3 a4 a5 a6 a7) (UP a0 a1 a2 a3 a4 a5 a6 a7)) a8)

/-- The reference's result, from its arguments. -/
def REF (a0 : FVec Ideal S32768x1024 .f32) (a1 : FVec Ideal S32768x384 .bf16) (a2 : FVec Ideal S32768x256 .bf16) (a3 : FVec Ideal S32768x768 .bf16) (a4 : FVec Ideal S128x6x64 .f32) (a5 : FVec Ideal S1024x1024 .f32) (a6 : FVec Ideal S1024 .f32) (a7 : FVec Ideal S1024x4096 .f32) (a8 : FVec Ideal S4096x1024 .f32) (a9 : FVec Ideal S1024 .f32) : FVec Ideal S32768x1024 .f32 :=
  mulf (mulf (X2 a0 a1 a2 a3 a4 a5 a6 a7 a8) (broadcastInDim S32768x1024 ![0, 1] bcast_S32768x1_S32768x1024_0_1 (Host.rsqrt (addf (Host.divf (broadcastInDim S32768x1 ![0] bcast_S32768_S32768x1_0 (Host.reduceAdd (mulf (X2 a0 a1 a2 a3 a4 a5 a6 a7 a8) (X2 a0 a1 a2 a3 a4 a5 a6 a7 a8)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a9))

/-- The reference run's result is that term of its arguments. -/
theorem res_eq (m : (ℓ : Loc nD τ sig) → Buf (Elt Ideal) ℓ) (c : Dev nD) :
    Cert.Reference2Ideal.Value.res_main_v40 (F := Ideal) m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.Reference2Ideal.Value.res_main_v40 REF X2 UP H X1 MLA
  rfl

section At
variable (a0 : FVec Ideal S32768x1024 .f32) (a1 : FVec Ideal S32768x384 .bf16) (a2 : FVec Ideal S32768x256 .bf16) (a3 : FVec Ideal S32768x768 .bf16) (a4 : FVec Ideal S128x6x64 .f32) (a5 : FVec Ideal S1024x1024 .f32) (a6 : FVec Ideal S1024 .f32) (a7 : FVec Ideal S1024x4096 .f32) (a8 : FVec Ideal S4096x1024 .f32) (a9 : FVec Ideal S1024 .f32)

/-- The values projected up, entry by entry. -/
theorem MLA_at (t : Fin 32768) (v : Fin 384) : MLA a3 a4 (ix2 t v)
    = ∑ x : Fin 128, a4 (ix3 x ⟨v.val / 64, by omega⟩ ⟨v.val % 64, by omega⟩) * a3 (ix2 t ⟨v.val / 64 * 128 + x.val, by omega⟩) := by
  pointwise [MLA]

/-- The residual after the attentions: the three attentions' sums apart. -/
theorem X1_at (t : Fin 32768) (n : Fin 1024) : X1 a0 a1 a2 a3 a4 a5 (ix2 t n)
    = a0 (ix2 t n) + ((∑ k : Fin 384, a1 (ix2 t k) * a5 (ix2 ⟨k.val, by omega⟩ n)) + (∑ k : Fin 256, a2 (ix2 t k) * a5 (ix2 ⟨384 + k.val, by omega⟩ n))
      + ∑ v : Fin 384, MLA a3 a4 (ix2 t v) * a5 (ix2 ⟨640 + v.val, by omega⟩ n)) := by
  pointwise [X1]
  refine congrArg (a0 (ix2 t n) + ·) ?_
  rw [Fin.sum_univ_two_halves 640 384 rfl, Fin.sum_univ_two_halves 384 256 rfl]
  refine congrArg₂ (· + ·) (congrArg₂ (· + ·) ?_ ?_) ?_
  · refine Finset.sum_congr rfl fun x _ => ?_
    have := x.isLt
    rw [dif_pos (show x.val < 384 by omega)]
  · refine Finset.sum_congr rfl fun x _ => ?_
    have := x.isLt
    rw [dif_neg (show ¬ (384 + x.val < 384) by omega), dif_pos (show 384 + x.val - 384 < 256 by omega)]
    congr 4
    dsimp only
    omega
  · refine Finset.sum_congr rfl fun x _ => ?_
    have := x.isLt
    rw [dif_neg (show ¬ (640 + x.val < 384) by omega), dif_neg (show ¬ (640 + x.val - 384 < 256) by omega)]
    congr 4
    dsimp only
    omega

/-- The norm of the residual, entry by entry. -/
theorem H_at (t : Fin 32768) (n : Fin 1024) : H a0 a1 a2 a3 a4 a5 a6 (ix2 t n)
    = rms (fun k => X1 a0 a1 a2 a3 a4 a5 (ix2 t k)) (fun k => a6 (ix1 k)) n := by
  unfold rms
  pointwise [H]

/-- The inner activations, entry by entry. -/
theorem UP_at (t : Fin 32768) (n : Fin 4096) : UP a0 a1 a2 a3 a4 a5 a6 a7 (ix2 t n)
    = max (∑ x : Fin 1024, H a0 a1 a2 a3 a4 a5 a6 (ix2 t x) * a7 (ix2 x n)) 0 := by
  pointwise [UP]

/-- The residual after the MLP: the MLP's four stretches of inner activations apart. -/
theorem X2_at (t : Fin 32768) (n : Fin 1024) : X2 a0 a1 a2 a3 a4 a5 a6 a7 a8 (ix2 t n)
    = X1 a0 a1 a2 a3 a4 a5 (ix2 t n) + ∑ p : Fin 4, chunk (fun k => H a0 a1 a2 a3 a4 a5 a6 (ix2 t k))
      (fun a f => a7 (ix2 a ⟨p.val * 1024 + f.val, by omega⟩)) (fun f k => a8 (ix2 ⟨p.val * 1024 + f.val, by omega⟩ k)) n := by
  have e : X2 a0 a1 a2 a3 a4 a5 a6 a7 a8 (ix2 t n) = X1 a0 a1 a2 a3 a4 a5 (ix2 t n)
      + ∑ x : Fin 4096, UP a0 a1 a2 a3 a4 a5 a6 a7 (ix2 t x) * UP a0 a1 a2 a3 a4 a5 a6 a7 (ix2 t x) * a8 (ix2 x n) := by
    pointwise [X2]
  rw [e, Fin.sum_univ_tiles 4 1024 rfl]
  simp only [UP_at, chunk]

/-- The result, entry by entry. -/
theorem REF_at (t : Fin 32768) (n : Fin 1024) : REF a0 a1 a2 a3 a4 a5 a6 a7 a8 a9 (ix2 t n)
    = rms (fun k => X2 a0 a1 a2 a3 a4 a5 a6 a7 a8 (ix2 t k)) (fun k => a9 (ix1 k)) n := by
  unfold rms
  pointwise [REF]

end At

end Cert.Reference2Ideal.Mix
end
-- ==== Proof.MixPay.lean ====
module

public import proofs.«01_k».proof.Proof.Gen.Kernel2Ideal.Skeleton
public import proofs.«01_k».proof.Proof.MixRef
@[expose] public section

set_option maxRecDepth 16384

noncomputable section

open Idealize.ShloMosaic Idealize.ShloMosaic.TcCoe Idealize.SL.Sem
open scoped BigOperators
namespace Cert.Kernel2Ideal.Mix
open Cert.Kernel2Ideal Cert.Kernel2Ideal.Gen
open Cert.Reference2Ideal.Mix (rms chunk)

/-- A pair of heads of the latent attention, projected up by matrices of which each fills half the columns, then out. -/
def pair (ol : Fin 768 → EReal) (p : Fin 3) (ua ub : Fin 128 → Fin 128 → EReal) (w : Fin 128 → EReal) : EReal :=
  ∑ v : Fin 128, ((∑ x : Fin 128, ol ⟨2 * p.val * 128 + x.val, by omega⟩ * ua x v)
    + ∑ x : Fin 128, ol ⟨(2 * p.val + 1) * 128 + x.val, by omega⟩ * ub x v) * w v

/-- Where the up-projections are a weight in their own half of the columns and zero in the other, a pair of heads gives
what the plain projection of its 128 values gives. -/
theorem pair_eq (ol : Fin 768 → EReal) (p : Fin 3) (ua ub : Fin 128 → Fin 128 → EReal) (w : Fin 128 → EReal)
    (A : Fin 128 → Fin 6 → Fin 64 → EReal)
    (ha : ∀ x v : Fin 128, ua x v = if h : v.val < 64 then A x ⟨2 * p.val, by omega⟩ ⟨v.val, h⟩ else 0)
    (hb : ∀ x v : Fin 128, ub x v = if h : v.val < 64 then 0 else A x ⟨2 * p.val + 1, by omega⟩ ⟨v.val - 64, by omega⟩) :
    pair ol p ua ub w = ∑ v : Fin 128, (∑ x : Fin 128, A x ⟨(p.val * 128 + v.val) / 64, by omega⟩ ⟨(p.val * 128 + v.val) % 64, by omega⟩
      * ol ⟨(p.val * 128 + v.val) / 64 * 128 + x.val, by omega⟩) * w v := by
  unfold pair
  refine Finset.sum_congr rfl fun v _ => ?_
  congr 1
  by_cases h : v.val < 64
  · have e1 : (p.val * 128 + v.val) / 64 = 2 * p.val := by omega
    have e2 : (p.val * 128 + v.val) % 64 = v.val := by omega
    simp only [ha, hb, dif_pos h, mul_zero, Finset.sum_const_zero, add_zero, e1, e2]
    exact Finset.sum_congr rfl fun x _ => mul_comm _ _
  · have e1 : (p.val * 128 + v.val) / 64 = 2 * p.val + 1 := by omega
    have e2 : (p.val * 128 + v.val) % 64 = v.val - 64 := by omega
    simp only [ha, hb, dif_neg h, mul_zero, Finset.sum_const_zero, zero_add, e1, e2]
    exact Finset.sum_congr rfl fun x _ => mul_comm _ _

/-- The attentions' projection of the first two, and the latent attention's first pair of heads, entry by entry. -/
theorem pay2_at (om : Vec Ideal S512x384 .bf16) (w0 : Vec Ideal S384x1024 .bf16) (od : Vec Ideal S512x256 .bf16) (w1 : Vec Ideal S256x1024 .bf16)
    (ol : Vec Ideal S512x768 .bf16) (u0 u1 : Vec Ideal S1x128x128 .bf16) (w2 : Vec Ideal S128x1024 .bf16) (r : Fin 512) (n : Fin 1024) :
    k0_pay2 om w0 od w1 ol u0 u1 w2 (ix2 r n)
      = ((∑ k, om (ix2 r k) * w0 (ix2 k n)) + ∑ k, od (ix2 r k) * w1 (ix2 k n))
        + pair (fun k => ol (ix2 r k)) 0 (fun x v => u0 (ix3 0 x v)) (fun x v => u1 (ix3 0 x v)) (fun v => w2 (ix2 v n)) := by
  unfold pair
  pointwise [k0_pay2]

/-- The residual after the attentions, entry by entry. -/
theorem pay5_at (ol : Vec Ideal S512x768 .bf16) (p2 : FVec Ideal S512x1024 .f32) (u2 u3 : Vec Ideal S1x128x128 .bf16)
    (w3 : Vec Ideal S128x1024 .bf16) (u4 u5 : Vec Ideal S1x128x128 .bf16) (w4 : Vec Ideal S128x1024 .bf16) (x : Vec Ideal S512x1024 .f32) (r : Fin 512) (n : Fin 1024) :
    k0_pay5 ol p2 (k0_pay3 ol u2) (k0_pay4 ol) u3 w3 u4 u5 w4 x (ix2 r n)
      = x (ix2 r n) + ((p2 (ix2 r n)
        + pair (fun k => ol (ix2 r k)) 1 (fun x v => u2 (ix3 0 x v)) (fun x v => u3 (ix3 0 x v)) (fun v => w3 (ix2 v n)))
        + pair (fun k => ol (ix2 r k)) 2 (fun x v => u4 (ix3 0 x v)) (fun x v => u5 (ix3 0 x v)) (fun v => w4 (ix2 v n))) := by
  unfold pair
  pointwise [k0_pay5, k0_pay3, k0_pay4]

/-- The norm the MLP reads, entry by entry. -/
theorem pay6_at (v9 : Vec Ideal S512x768 .bf16) (v23 : FVec Ideal S512x1024 .f32) (v27 : FVec Ideal S512x128 .f32) (v28 : FVec Ideal S512x128 .bf16) (v29 : Vec Ideal S1x128x128 .bf16) (v34 : Vec Ideal S128x1024 .bf16) (v39 : Vec Ideal S1x128x128 .bf16) (v43 : Vec Ideal S1x128x128 .bf16) (v48 : Vec Ideal S128x1024 .bf16) (v52 : Vec Ideal S512x1024 .f32) (gm : Vec Ideal S1x1024 .f32) (r : Fin 512) (n : Fin 1024) :
    k0_pay8 (k0_pay6 v9 v23 v27 v28 v29 v34 v39 v43 v48 v52) (k0_pay7 gm) (ix2 r n)
      = rms (fun k => k0_pay5 v9 v23 v27 v28 v29 v34 v39 v43 v48 v52 (ix2 r k)) (fun k => gm (ix2 0 k)) n := by
  unfold rms
  pointwise [k0_pay8, k0_pay6, k0_pay7]

/-- The MLP's first three stretches of inner activations. -/
theorem pay9_at (a b : FVec Ideal S512x1024 .f32) (u0 d0 u1 d1 u2 d2 : Vec Ideal S1024x1024 .bf16) (r : Fin 512) (n : Fin 1024) :
    k0_pay9 a b u0 d0 u1 d1 u2 d2 (ix2 r n)
      = (chunk (fun k => k0_pay8 a b (ix2 r k)) (fun a f => u0 (ix2 a f)) (fun f k => d0 (ix2 f k)) n
        + chunk (fun k => k0_pay8 a b (ix2 r k)) (fun a f => u1 (ix2 a f)) (fun f k => d1 (ix2 f k)) n)
        + chunk (fun k => k0_pay8 a b (ix2 r k)) (fun a f => u2 (ix2 a f)) (fun f k => d2 (ix2 f k)) n := by
  unfold chunk
  pointwise [k0_pay9]

/-- The stored block, entry by entry. -/
theorem pay1_at (x1 : FVec Ideal S512x1024 .f32) (h : FVec Ideal S512x1024 .bf16) (dn : FVec Ideal S512x1024 .f32) (u3 d3 : Vec Ideal S1024x1024 .bf16) (gf : Vec Ideal S1x1024 .f32)
    (r : Fin 512) (n : Fin 1024) :
    k0_pay1 x1 h dn u3 d3 gf (ix2 r n)
      = rms (fun k => x1 (ix2 r k) + (dn (ix2 r k) + chunk (fun k => h (ix2 r k)) (fun a f => u3 (ix2 a f)) (fun f k => d3 (ix2 f k)) k)) (fun k => gf (ix2 0 k)) n := by
  unfold rms chunk
  pointwise [k0_pay1]

end Cert.Kernel2Ideal.Mix
end
-- ==== Proof.MixW.lean ====
module

public import proofs.«01_k».proof.Proof.Gen.Kernel2Ideal.Frame
public import Idealize.ShloMosaic.Lib.Pipeline.ValueKit
public import Idealize.ShloMosaic.Lib.Claim
@[expose] public section

set_option maxRecDepth 16384

noncomputable section

open Idealize.ShloMosaic Idealize.ShloMosaic.TcCoe Idealize.SL.Sem
open scoped BigOperators
namespace Cert.Kernel2Ideal.Mix
open Cert.Kernel2Ideal Cert.Kernel2Ideal.Gen

variable (m : (ℓ : Loc nD τ sig) → Buf (Elt Ideal) ℓ) (c : Dev nD)

/-- The padding value, the integer zero read as a float, is zero. -/
theorem pad_zero : FloatOps.sitofp (F := Ideal) FTy.f32 (0#32 : BitVec 32) = (0 : EReal) := by
  simp [FloatOps.sitofp]

/-- The padded head 0 of the latent value weights: the head in its left half, zero on the right. -/
theorem V26_0 (x v : Fin 128) : V m c main_v26 (ix3 0 x v)
    = if hv : (v : ℕ) < 64 then (m ((c : Thread nD τ).loc main_arg4)) (ix3 x 0 ⟨v, hv⟩) else (0 : EReal) := by
  unfold V
  simp only [hostOps0, hostOps0_1, hostOps0_2, hostOps0_3, hostOps0_4, hostOps0_5,
    hostOps0_6, hostOps0_7, hostOps0_8, hostOps0_9, hostOps0_10, hostOps0_11, hostOps0_12,
    List.flatten_cons, List.flatten_nil, List.append_nil, List.cons_append, List.nil_append]
  after_results
  pointwise
  after_results_simp
  simp only [StableHlo.TRef.toBuf, StableHlo.TRef.ofBuf, cast_eq]
  pointwise
  by_cases hv : (v : ℕ) < 64
  · simp only [hv, dif_pos]
  · simp only [hv, dif_neg, not_false_eq_true]
    exact pad_zero

/-- The padded head 1 of the latent value weights: the head in its right half, zero on the left. -/
theorem V26_1 (x v : Fin 128) : V m c main_v26 (ix3 1 x v)
    = if hv : (v : ℕ) < 64 then (0 : EReal) else (m ((c : Thread nD τ).loc main_arg4)) (ix3 x 1 ⟨v - 64, by omega⟩) := by
  unfold V
  simp only [hostOps0, hostOps0_1, hostOps0_2, hostOps0_3, hostOps0_4, hostOps0_5,
    hostOps0_6, hostOps0_7, hostOps0_8, hostOps0_9, hostOps0_10, hostOps0_11, hostOps0_12,
    List.flatten_cons, List.flatten_nil, List.append_nil, List.cons_append, List.nil_append]
  after_results
  pointwise
  after_results_simp
  simp only [StableHlo.TRef.toBuf, StableHlo.TRef.ofBuf, cast_eq]
  pointwise
  by_cases hv : (v : ℕ) < 64
  · rw [dif_neg (by omega), dif_pos hv]
    exact pad_zero
  · rw [dif_pos (by omega), dif_neg hv]

/-- The padded head 2 of the latent value weights: the head in its left half, zero on the right. -/
theorem V26_2 (x v : Fin 128) : V m c main_v26 (ix3 2 x v)
    = if hv : (v : ℕ) < 64 then (m ((c : Thread nD τ).loc main_arg4)) (ix3 x 2 ⟨v, hv⟩) else (0 : EReal) := by
  unfold V
  simp only [hostOps0, hostOps0_1, hostOps0_2, hostOps0_3, hostOps0_4, hostOps0_5,
    hostOps0_6, hostOps0_7, hostOps0_8, hostOps0_9, hostOps0_10, hostOps0_11, hostOps0_12,
    List.flatten_cons, List.flatten_nil, List.append_nil, List.cons_append, List.nil_append]
  after_results
  pointwise
  after_results_simp
  simp only [StableHlo.TRef.toBuf, StableHlo.TRef.ofBuf, cast_eq]
  pointwise
  by_cases hv : (v : ℕ) < 64
  · simp only [hv, dif_pos]
  · simp only [hv, dif_neg, not_false_eq_true]
    exact pad_zero

/-- The padded head 3 of the latent value weights: the head in its right half, zero on the left. -/
theorem V26_3 (x v : Fin 128) : V m c main_v26 (ix3 3 x v)
    = if hv : (v : ℕ) < 64 then (0 : EReal) else (m ((c : Thread nD τ).loc main_arg4)) (ix3 x 3 ⟨v - 64, by omega⟩) := by
  unfold V
  simp only [hostOps0, hostOps0_1, hostOps0_2, hostOps0_3, hostOps0_4, hostOps0_5,
    hostOps0_6, hostOps0_7, hostOps0_8, hostOps0_9, hostOps0_10, hostOps0_11, hostOps0_12,
    List.flatten_cons, List.flatten_nil, List.append_nil, List.cons_append, List.nil_append]
  after_results
  pointwise
  after_results_simp
  simp only [StableHlo.TRef.toBuf, StableHlo.TRef.ofBuf, cast_eq]
  pointwise
  by_cases hv : (v : ℕ) < 64
  · rw [dif_neg (by omega), dif_pos hv]
    exact pad_zero
  · rw [dif_pos (by omega), dif_neg hv]

/-- The padded head 4 of the latent value weights: the head in its left half, zero on the right. -/
theorem V26_4 (x v : Fin 128) : V m c main_v26 (ix3 4 x v)
    = if hv : (v : ℕ) < 64 then (m ((c : Thread nD τ).loc main_arg4)) (ix3 x 4 ⟨v, hv⟩) else (0 : EReal) := by
  unfold V
  simp only [hostOps0, hostOps0_1, hostOps0_2, hostOps0_3, hostOps0_4, hostOps0_5,
    hostOps0_6, hostOps0_7, hostOps0_8, hostOps0_9, hostOps0_10, hostOps0_11, hostOps0_12,
    List.flatten_cons, List.flatten_nil, List.append_nil, List.cons_append, List.nil_append]
  after_results
  pointwise
  after_results_simp
  simp only [StableHlo.TRef.toBuf, StableHlo.TRef.ofBuf, cast_eq]
  pointwise
  by_cases hv : (v : ℕ) < 64
  · simp only [hv, dif_pos]
  · simp only [hv, dif_neg, not_false_eq_true]
    exact pad_zero

/-- The padded head 5 of the latent value weights: the head in its right half, zero on the left. -/
theorem V26_5 (x v : Fin 128) : V m c main_v26 (ix3 5 x v)
    = if hv : (v : ℕ) < 64 then (0 : EReal) else (m ((c : Thread nD τ).loc main_arg4)) (ix3 x 5 ⟨v - 64, by omega⟩) := by
  unfold V
  simp only [hostOps0, hostOps0_1, hostOps0_2, hostOps0_3, hostOps0_4, hostOps0_5,
    hostOps0_6, hostOps0_7, hostOps0_8, hostOps0_9, hostOps0_10, hostOps0_11, hostOps0_12,
    List.flatten_cons, List.flatten_nil, List.append_nil, List.cons_append, List.nil_append]
  after_results
  pointwise
  after_results_simp
  simp only [StableHlo.TRef.toBuf, StableHlo.TRef.ofBuf, cast_eq]
  pointwise
  by_cases hv : (v : ℕ) < 64
  · rw [dif_neg (by omega), dif_pos hv]
    exact pad_zero
  · rw [dif_pos (by omega), dif_neg hv]

/-- The output weights reach the kernel as they are given. -/
theorem V27 : V m c main_v27 = m ((c : Thread nD τ).loc main_arg5) := by
  unfold V
  simp only [hostOps0, hostOps0_1, hostOps0_2, hostOps0_3, hostOps0_4, hostOps0_5,
    hostOps0_6, hostOps0_7, hostOps0_8, hostOps0_9, hostOps0_10, hostOps0_11, hostOps0_12,
    List.flatten_cons, List.flatten_nil, List.append_nil, List.cons_append, List.nil_append]
  after_results
  rfl

/-- The up weights reach the kernel as they are given. -/
theorem V29 : V m c main_v29 = m ((c : Thread nD τ).loc main_arg7) := by
  unfold V
  simp only [hostOps0, hostOps0_1, hostOps0_2, hostOps0_3, hostOps0_4, hostOps0_5,
    hostOps0_6, hostOps0_7, hostOps0_8, hostOps0_9, hostOps0_10, hostOps0_11, hostOps0_12,
    List.flatten_cons, List.flatten_nil, List.append_nil, List.cons_append, List.nil_append]
  after_results
  rfl

/-- The down weights reach the kernel as they are given. -/
theorem V30 : V m c main_v30 = m ((c : Thread nD τ).loc main_arg8) := by
  unfold V
  simp only [hostOps0, hostOps0_1, hostOps0_2, hostOps0_3, hostOps0_4, hostOps0_5,
    hostOps0_6, hostOps0_7, hostOps0_8, hostOps0_9, hostOps0_10, hostOps0_11, hostOps0_12,
    List.flatten_cons, List.flatten_nil, List.append_nil, List.cons_append, List.nil_append]
  after_results
  rfl

/-- The first norm's weight reaches the kernel as one row. -/
theorem V28 (k : Fin 1024) : V m c main_v28 (ix2 0 k) = (m ((c : Thread nD τ).loc main_arg6)) (ix1 k) := by
  unfold V
  simp only [hostOps0, hostOps0_1, hostOps0_2, hostOps0_3, hostOps0_4, hostOps0_5,
    hostOps0_6, hostOps0_7, hostOps0_8, hostOps0_9, hostOps0_10, hostOps0_11, hostOps0_12,
    List.flatten_cons, List.flatten_nil, List.append_nil, List.cons_append, List.nil_append]
  after_results
  pointwise

/-- The second norm's weight reaches the kernel as one row. -/
theorem V31 (k : Fin 1024) : V m c main_v31 (ix2 0 k) = (m ((c : Thread nD τ).loc main_arg9)) (ix1 k) := by
  unfold V
  simp only [hostOps0, hostOps0_1, hostOps0_2, hostOps0_3, hostOps0_4, hostOps0_5,
    hostOps0_6, hostOps0_7, hostOps0_8, hostOps0_9, hostOps0_10, hostOps0_11, hostOps0_12,
    List.flatten_cons, List.flatten_nil, List.append_nil, List.cons_append, List.nil_append]
  after_results
  pointwise

end Cert.Kernel2Ideal.Mix
end
-- ==== Proof.MixPoint.lean ====
module

public import proofs.«01_k».proof.Proof.MixRef
public import proofs.«01_k».proof.Proof.MixPay
public import proofs.«01_k».proof.Proof.MixW
public import proofs.«01_k».proof.Proof.Gen.Kernel2Ideal.Frame
@[expose] public section

set_option maxRecDepth 16384

noncomputable section

open Idealize.ShloMosaic Idealize.ShloMosaic.TcCoe Idealize.SL.Sem
open scoped BigOperators
namespace Cert.Kernel2Ideal.Mix
open Cert.Kernel2Ideal Cert.Kernel2Ideal.Gen
open Cert.Reference2Ideal.Mix (rms chunk MLA X1 H X2 REF MLA_at X1_at H_at X2_at REF_at)

section Row
variable (a0 : FVec Ideal S32768x1024 .f32) (a1 : FVec Ideal S32768x384 .bf16) (a2 : FVec Ideal S32768x256 .bf16)
  (a3 : FVec Ideal S32768x768 .bf16) (a4 : FVec Ideal S128x6x64 .f32) (a5 : FVec Ideal S1024x1024 .f32) (a6 : FVec Ideal S1024 .f32)
  (a7 : FVec Ideal S1024x4096 .f32) (a8 : FVec Ideal S4096x1024 .f32) (a9 : FVec Ideal S1024 .f32) (r : Fin 512) (t : Fin 32768)

/-- A row of the kernel's residual is the reference's row. -/
theorem x1_row (om : Vec Ideal S512x384 .bf16) (w0 : Vec Ideal S384x1024 .bf16) (od : Vec Ideal S512x256 .bf16) (w1 : Vec Ideal S256x1024 .bf16)
    (ol : Vec Ideal S512x768 .bf16) (u0 u1 u2 u3 u4 u5 : Vec Ideal S1x128x128 .bf16) (w2 w3 w4 : Vec Ideal S128x1024 .bf16) (x : Vec Ideal S512x1024 .f32)
    (hx : ∀ k, x (ix2 r k) = a0 (ix2 t k)) (hom : ∀ k, om (ix2 r k) = a1 (ix2 t k)) (hod : ∀ k, od (ix2 r k) = a2 (ix2 t k))
    (hol : ∀ k, ol (ix2 r k) = a3 (ix2 t k))
    (hw0 : ∀ (k : Fin 384) n, w0 (ix2 k n) = a5 (ix2 ⟨k.val, by omega⟩ n)) (hw1 : ∀ (k : Fin 256) n, w1 (ix2 k n) = a5 (ix2 ⟨384 + k.val, by omega⟩ n))
    (hw2 : ∀ (k : Fin 128) n, w2 (ix2 k n) = a5 (ix2 ⟨640 + k.val, by omega⟩ n)) (hw3 : ∀ (k : Fin 128) n, w3 (ix2 k n) = a5 (ix2 ⟨768 + k.val, by omega⟩ n))
    (hw4 : ∀ (k : Fin 128) n, w4 (ix2 k n) = a5 (ix2 ⟨896 + k.val, by omega⟩ n))
    (hu0 : ∀ x v : Fin 128, u0 (ix3 0 x v) = if h : v.val < 64 then a4 (ix3 x 0 ⟨v.val, h⟩) else (0 : EReal))
    (hu1 : ∀ x v : Fin 128, u1 (ix3 0 x v) = if h : v.val < 64 then (0 : EReal) else a4 (ix3 x 1 ⟨v.val - 64, by omega⟩))
    (hu2 : ∀ x v : Fin 128, u2 (ix3 0 x v) = if h : v.val < 64 then a4 (ix3 x 2 ⟨v.val, h⟩) else (0 : EReal))
    (hu3 : ∀ x v : Fin 128, u3 (ix3 0 x v) = if h : v.val < 64 then (0 : EReal) else a4 (ix3 x 3 ⟨v.val - 64, by omega⟩))
    (hu4 : ∀ x v : Fin 128, u4 (ix3 0 x v) = if h : v.val < 64 then a4 (ix3 x 4 ⟨v.val, h⟩) else (0 : EReal))
    (hu5 : ∀ x v : Fin 128, u5 (ix3 0 x v) = if h : v.val < 64 then (0 : EReal) else a4 (ix3 x 5 ⟨v.val - 64, by omega⟩)) (n : Fin 1024) :
    k0_pay5 ol (k0_pay2 om w0 od w1 ol u0 u1 w2) (k0_pay3 ol u2) (k0_pay4 ol) u3 w3 u4 u5 w4 x (ix2 r n) = X1 a0 a1 a2 a3 a4 a5 (ix2 t n) := by
  have e0 := pair_eq (fun k => ol (ix2 r k)) 0 (fun x v => u0 (ix3 0 x v)) (fun x v => u1 (ix3 0 x v)) (fun v => w2 (ix2 v n))
    (fun x h v => a4 (ix3 x h v)) hu0 hu1
  have e1 := pair_eq (fun k => ol (ix2 r k)) 1 (fun x v => u2 (ix3 0 x v)) (fun x v => u3 (ix3 0 x v)) (fun v => w3 (ix2 v n))
    (fun x h v => a4 (ix3 x h v)) hu2 hu3
  have e2 := pair_eq (fun k => ol (ix2 r k)) 2 (fun x v => u4 (ix3 0 x v)) (fun x v => u5 (ix3 0 x v)) (fun v => w4 (ix2 v n))
    (fun x h v => a4 (ix3 x h v)) hu4 hu5
  have eM := Fin.sum_univ_tiles (N := 384) 3 128 rfl (fun v : Fin 384 => MLA a3 a4 (ix2 t v) * (a5 (ix2 ⟨640 + v.val, by omega⟩ n) : EReal))
  rw [pay5_at, pay2_at, e0, e1, e2, X1_at, eM, Fin.sum_univ_three]
  simp only [MLA_at, hx, hom, hod, hol, hw0, hw1, hw2, hw3, hw4, ← add_assoc]
  rfl

/-- A row of the kernel's output is the reference's row, from its residual's and its norm's rows. -/
theorem out_row (x1 : FVec Ideal S512x1024 .f32) (a b : FVec Ideal S512x1024 .f32) (u0 d0 u1 d1 u2 d2 u3 d3 : Vec Ideal S1024x1024 .bf16) (gf : Vec Ideal S1x1024 .f32)
    (hx1 : ∀ k, x1 (ix2 r k) = X1 a0 a1 a2 a3 a4 a5 (ix2 t k)) (hh : ∀ k, k0_pay8 a b (ix2 r k) = H a0 a1 a2 a3 a4 a5 a6 (ix2 t k))
    (hu0 : ∀ i j : Fin 1024, u0 (ix2 i j) = a7 (ix2 i ⟨j.val, by omega⟩)) (hd0 : ∀ i j : Fin 1024, d0 (ix2 i j) = a8 (ix2 ⟨i.val, by omega⟩ j))
    (hu1 : ∀ i j : Fin 1024, u1 (ix2 i j) = a7 (ix2 i ⟨1024 + j.val, by omega⟩)) (hd1 : ∀ i j : Fin 1024, d1 (ix2 i j) = a8 (ix2 ⟨1024 + i.val, by omega⟩ j))
    (hu2 : ∀ i j : Fin 1024, u2 (ix2 i j) = a7 (ix2 i ⟨2048 + j.val, by omega⟩)) (hd2 : ∀ i j : Fin 1024, d2 (ix2 i j) = a8 (ix2 ⟨2048 + i.val, by omega⟩ j))
    (hu3 : ∀ i j : Fin 1024, u3 (ix2 i j) = a7 (ix2 i ⟨3072 + j.val, by omega⟩)) (hd3 : ∀ i j : Fin 1024, d3 (ix2 i j) = a8 (ix2 ⟨3072 + i.val, by omega⟩ j))
    (hg : ∀ k, gf (ix2 0 k) = a9 (ix1 k)) (n : Fin 1024) :
    k0_pay1 x1 (k0_pay8 a b) (k0_pay9 a b u0 d0 u1 d1 u2 d2) u3 d3 gf (ix2 r n) = REF a0 a1 a2 a3 a4 a5 a6 a7 a8 a9 (ix2 t n) := by
  rw [pay1_at, REF_at]
  simp only [pay9_at, X2_at, hx1, hh, hu0, hd0, hu1, hd1, hu2, hd2, hu3, hd3, hg, Fin.sum_univ_four]
  refine congrArg (fun f => rms f _ n) (funext fun k => congrArg (X1 a0 a1 a2 a3 a4 a5 (ix2 t k) + ·) ?_)
  refine congrArg₂ (· + ·) (congrArg₂ (· + ·) (congrArg₂ (· + ·) ?_ ?_) ?_) ?_ <;>
    simp [chunk]

end Row

/-- A load of a band of rows of a matrix, entry by entry. -/
theorem rows2 {A B p : ℕ} {φ : EltTy} (X : Vec Ideal (⟨2, ![A, B]⟩ : Shape) φ) (off : Fin 2 → ℕ) (o : ℕ) (ho : off = ![o, 0])
    (inb : ∀ a, off a + (⟨2, ![p, B]⟩ : Shape).size a ≤ (⟨2, ![A, B]⟩ : Shape).size a) (i : Fin p) (j : Fin B) (hi : o + i.val < A) :
    View.ld X (Rect.unit (s := (⟨2, ![A, B]⟩ : Shape)) off (⟨2, ![p, B]⟩ : Shape).size inb) (ix2 i j) = X (ix2 ⟨o + i.val, hi⟩ j) := by
  subst ho
  refine congrArg X (funext fun a => Fin.ext ?_)
  match a with
  | 0 => show o + 1 * i.val = o + i.val; omega
  | 1 => show 0 + 1 * j.val = j.val; omega

/-- A load of a band of columns of a matrix, entry by entry. -/
theorem cols2 {A B q : ℕ} {φ : EltTy} (X : Vec Ideal (⟨2, ![A, B]⟩ : Shape) φ) (off : Fin 2 → ℕ) (o : ℕ) (ho : off = ![0, o])
    (inb : ∀ a, off a + (⟨2, ![A, q]⟩ : Shape).size a ≤ (⟨2, ![A, B]⟩ : Shape).size a) (i : Fin A) (j : Fin q) (hj : o + j.val < B) :
    View.ld X (Rect.unit (s := (⟨2, ![A, B]⟩ : Shape)) off (⟨2, ![A, q]⟩ : Shape).size inb) (ix2 i j) = X (ix2 i ⟨o + j.val, hj⟩) := by
  subst ho
  refine congrArg X (funext fun a => Fin.ext ?_)
  match a with
  | 0 => show 0 + 1 * i.val = i.val; omega
  | 1 => show o + 1 * j.val = o + j.val; omega

/-- A load of a whole matrix is the matrix. -/
theorem full2 {A B : ℕ} {φ : EltTy} (X : Vec Ideal (⟨2, ![A, B]⟩ : Shape) φ)
    (inb : ∀ a, (![0, 0] : Fin 2 → ℕ) a + (⟨2, ![A, B]⟩ : Shape).size a ≤ (⟨2, ![A, B]⟩ : Shape).size a) :
    View.ld X (Rect.unit (s := (⟨2, ![A, B]⟩ : Shape)) ![0, 0] (⟨2, ![A, B]⟩ : Shape).size inb) = X := by
  refine funext fun y => congrArg X (funext fun a => Fin.ext ?_)
  match a with
  | 0 => show 0 + 1 * (y 0).val = (y 0).val; omega
  | 1 => show 0 + 1 * (y 1).val = (y 1).val; omega

/-- A load of one head's matrix, entry by entry. -/
theorem ld3 (X : Vec Ideal S6x128x128 .bf16) (off : Fin 3 → ℕ) (o : ℕ) (ho : off = ![o, 0, 0])
    (inb : ∀ a, off a + S1x128x128.size a ≤ S6x128x128.size a) (i j : Fin 128) (hh : o < 6) :
    View.ld X (Rect.unit (s := S6x128x128) off S1x128x128.size inb) (ix3 0 i j) = X (ix3 ⟨o, hh⟩ i j) := by
  subst ho
  refine congrArg X (funext fun a => Fin.ext ?_)
  match a with
  | 0 => show o + 1 * 0 = o; omega
  | 1 => show 0 + 1 * i.val = i.val; omega
  | 2 => show 0 + 1 * j.val = j.val; omega

end Cert.Kernel2Ideal.Mix
end
-- ==== Proof.Mix.lean ====
module

public import proofs.«01_k».proof.Proof.MixPoint
public import proofs.«01_k».proof.Proof.Gen.Kernel2Ideal.Value
public import proofs.«01_k».proof.Defs
@[expose] public section

set_option maxRecDepth 16384
set_option maxHeartbeats 400000

noncomputable section

open Idealize.ShloMosaic Idealize.ShloMosaic.TcCoe Idealize.SL.Sem
open scoped BigOperators
namespace Cert.Kernel2Ideal.Mix
open Cert.Kernel2Ideal Cert.Kernel2Ideal.Gen
open Cert.Reference2Ideal.Mix (rms chunk MLA X1 H X2 REF MLA_at X1_at H_at X2_at REF_at)

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0] :=
  (by decide +kernel : ∀ t : Fin grid0.N, _)

/-- The residual's block, entry by entry. -/
theorem block0 (c : Dev nD) (t : Fin cfg0.N) (ht : t.val < 64) (r : Fin 512) (k : Fin 1024) :
    iblk m c 0 t (ix2 r k) = (m ((c : Thread nD τ).loc main_arg0)) (ix2 ⟨t.val * 512 + r.val, by omega⟩ k) := by
  rw [← V_main_arg0 m c]
  blk_ext [iblk, idx_val t]

/-- The first attention's block, entry by entry. -/
theorem block1 (c : Dev nD) (t : Fin cfg0.N) (ht : t.val < 64) (r : Fin 512) (k : Fin 384) :
    iblk m c 1 t (ix2 r k) = (m ((c : Thread nD τ).loc main_arg1)) (ix2 ⟨t.val * 512 + r.val, by omega⟩ k) := by
  rw [← V_main_arg1 m c]
  blk_ext [iblk, idx_val t]

/-- The second attention's block, entry by entry. -/
theorem block2 (c : Dev nD) (t : Fin cfg0.N) (ht : t.val < 64) (r : Fin 512) (k : Fin 256) :
    iblk m c 2 t (ix2 r k) = (m ((c : Thread nD τ).loc main_arg2)) (ix2 ⟨t.val * 512 + r.val, by omega⟩ k) := by
  rw [← V_main_arg2 m c]
  blk_ext [iblk, idx_val t]

/-- The latent attention's block, entry by entry. -/
theorem block3 (c : Dev nD) (t : Fin cfg0.N) (ht : t.val < 64) (r : Fin 512) (k : Fin 768) :
    iblk m c 3 t (ix2 r k) = (m ((c : Thread nD τ).loc main_arg3)) (ix2 ⟨t.val * 512 + r.val, by omega⟩ k) := by
  rw [← V_main_arg3 m c]
  blk_ext [iblk, idx_val t]

/-- Window 4's block is its whole array. -/
theorem block4 (c : Dev nD) (t : Fin cfg0.N) (i : Fin 6) (j : Fin 128) (k : Fin 128) : iblk m c 4 t (ix3 i j k) = V m c main_v26 (ix3 i j k) := by
  blk_ext [iblk, idx_val t]

/-- Window 5's block is its whole array. -/
theorem block5 (c : Dev nD) (t : Fin cfg0.N) (i : Fin 1024) (j : Fin 1024) : iblk m c 5 t (ix2 i j) = V m c main_v27 (ix2 i j) := by
  blk_ext [iblk, idx_val t]

/-- Window 6's block is its whole array. -/
theorem block6 (c : Dev nD) (t : Fin cfg0.N) (i : Fin 1) (j : Fin 1024) : iblk m c 6 t (ix2 i j) = V m c main_v28 (ix2 i j) := by
  blk_ext [iblk, idx_val t]

/-- Window 7's block is its whole array. -/
theorem block7 (c : Dev nD) (t : Fin cfg0.N) (i : Fin 1024) (j : Fin 4096) : iblk m c 7 t (ix2 i j) = V m c main_v29 (ix2 i j) := by
  blk_ext [iblk, idx_val t]

/-- Window 8's block is its whole array. -/
theorem block8 (c : Dev nD) (t : Fin cfg0.N) (i : Fin 4096) (j : Fin 1024) : iblk m c 8 t (ix2 i j) = V m c main_v30 (ix2 i j) := by
  blk_ext [iblk, idx_val t]

/-- Window 9's block is its whole array. -/
theorem block9 (c : Dev nD) (t : Fin cfg0.N) (i : Fin 1) (j : Fin 1024) : iblk m c 9 t (ix2 i j) = V m c main_v31 (ix2 i j) := by
  blk_ext [iblk, idx_val t]

/-- The stored block at a row and a column is the reference's entry. -/
theorem point (c : Dev nD) (t : Fin cfg0.N) (ht : t.val < 64) (r : Fin 512) (n : Fin 1024) :

    k0_pay1 (k0_pay5 (iblk m c 3 t) (k0_pay10 (iblk m c 0 t) (iblk m c 1 t) (iblk m c 2 t) (iblk m c 3 t) (iblk m c 4
      t) (iblk m c 5 t) (iblk m c 6 t) (iblk m c 7 t) (iblk m c 8 t) (iblk m c 9 t)) (k0_pay11 (iblk m c 0 t) (iblk m c
      1 t) (iblk m c 2 t) (iblk m c 3 t) (iblk m c 4 t) (iblk m c 5 t) (iblk m c 6 t) (iblk m c 7 t) (iblk m c 8 t)
      (iblk m c 9 t)) (k0_pay12 (iblk m c 0 t) (iblk m c 1 t) (iblk m c 2 t) (iblk m c 3 t) (iblk m c 4 t) (iblk m c 5
      t) (iblk m c 6 t) (iblk m c 7 t) (iblk m c 8 t) (iblk m c 9 t)) (View.ld (iblk m c 4 t) r0_9) (View.ld (iblk m c 5
      t) r0_10) (View.ld (iblk m c 4 t) r0_11) (View.ld (iblk m c 4 t) r0_12) (View.ld (iblk m c 5 t) r0_13) (iblk m c 0
      t)) (k0_pay8 (k0_pay13 (iblk m c 0 t) (iblk m c 1 t) (iblk m c 2 t) (iblk m c 3 t) (iblk m c 4 t) (iblk m c 5 t)
      (iblk m c 6 t) (iblk m c 7 t) (iblk m c 8 t) (iblk m c 9 t)) (k0_pay14 (iblk m c 0 t) (iblk m c 1 t) (iblk m c 2
      t) (iblk m c 3 t) (iblk m c 4 t) (iblk m c 5 t) (iblk m c 6 t) (iblk m c 7 t) (iblk m c 8 t) (iblk m c 9 t)))
      (k0_pay9 (k0_pay13 (iblk m c 0 t) (iblk m c 1 t) (iblk m c 2 t) (iblk m c 3 t) (iblk m c 4 t) (iblk m c 5 t) (iblk
      m c 6 t) (iblk m c 7 t) (iblk m c 8 t) (iblk m c 9 t)) (k0_pay14 (iblk m c 0 t) (iblk m c 1 t) (iblk m c 2 t)
      (iblk m c 3 t) (iblk m c 4 t) (iblk m c 5 t) (iblk m c 6 t) (iblk m c 7 t) (iblk m c 8 t) (iblk m c 9 t)) (View.ld
      (iblk m c 7 t) r0_16) (View.ld (iblk m c 8 t) r0_17) (View.ld (iblk m c 7 t) r0_18) (View.ld (iblk m c 8 t) r0_19)
      (View.ld (iblk m c 7 t) r0_20) (View.ld (iblk m c 8 t) r0_21)) (View.ld (iblk m c 7 t) r0_22) (View.ld (iblk m c 8
      t) r0_23) (iblk m c 9 t) (ix2 r n)
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (ix2 ⟨t.val * 512 + r.val, by omega⟩ n) := by
  have H1 := x1_row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r ⟨t.val * 512 + r.val, by omega⟩
    (View.ld (iblk m c 1 t) r0_0) (View.ld (iblk m c 5 t) r0_1) (View.ld (iblk m c 2 t) r0_2) (View.ld (iblk m c 5 t) r0_3)
    (View.ld (iblk m c 3 t) r0_4) (View.ld (iblk m c 4 t) r0_5) (View.ld (iblk m c 4 t) r0_6) (View.ld (iblk m c 4 t) r0_8) (View.ld (iblk m c 4 t) r0_9)
    (View.ld (iblk m c 4 t) r0_11) (View.ld (iblk m c 4 t) r0_12) (View.ld (iblk m c 5 t) r0_7) (View.ld (iblk m c 5 t) r0_10) (View.ld (iblk m c 5 t) r0_13)
    (View.ld (iblk m c 0 t) r0_14)
    (fun k => (congrFun (full2 _ _) _).trans (block0 m c t ht r k)) (fun k => (congrFun (full2 _ _) _).trans (block1 m c t ht r k))
    (fun k => (congrFun (full2 _ _) _).trans (block2 m c t ht r k)) (fun k => (congrFun (full2 _ _) _).trans (block3 m c t ht r k))
    (fun k n => (rows2 _ _ 0 rfl _ _ _ (by omega)).trans ((block5 m c t _ _).trans (by rw [V27]; simp only [Nat.zero_add])))
    (fun k n => (rows2 _ _ 384 rfl _ _ _ (by omega)).trans ((block5 m c t _ _).trans (by rw [V27])))
    (fun k n => (rows2 _ _ 640 rfl _ _ _ (by omega)).trans ((block5 m c t _ _).trans (by rw [V27])))
    (fun k n => (rows2 _ _ 768 rfl _ _ _ (by omega)).trans ((block5 m c t _ _).trans (by rw [V27])))
    (fun k n => (rows2 _ _ 896 rfl _ _ _ (by omega)).trans ((block5 m c t _ _).trans (by rw [V27])))
    (fun x v => (ld3 _ _ 0 rfl _ _ _ (by omega)).trans ((block4 m c t _ _ _).trans (V26_0 m c x v)))
    (fun x v => (ld3 _ _ 1 rfl _ _ _ (by omega)).trans ((block4 m c t _ _ _).trans (V26_1 m c x v)))
    (fun x v => (ld3 _ _ 2 rfl _ _ _ (by omega)).trans ((block4 m c t _ _ _).trans (V26_2 m c x v)))
    (fun x v => (ld3 _ _ 3 rfl _ _ _ (by omega)).trans ((block4 m c t _ _ _).trans (V26_3 m c x v)))
    (fun x v => (ld3 _ _ 4 rfl _ _ _ (by omega)).trans ((block4 m c t _ _ _).trans (V26_4 m c x v)))
    (fun x v => (ld3 _ _ 5 rfl _ _ _ (by omega)).trans ((block4 m c t _ _ _).trans (V26_5 m c x v)))
  have H2 : ∀ k, k0_pay8 (k0_pay13 (iblk m c 0 t) (iblk m c 1 t) (iblk m c 2 t) (iblk m c 3 t) (iblk m c 4 t) (iblk m c 5 t) (iblk m c 6 t) (iblk m c 7 t) (iblk m c 8 t) (iblk m c 9 t)) (k0_pay14 (iblk m c 0 t) (iblk m c 1 t) (iblk m c 2 t) (iblk m c 3 t) (iblk m c 4 t) (iblk m c 5 t) (iblk m c 6 t) (iblk m c 7 t) (iblk m c 8 t) (iblk m c 9 t)) (ix2 r k)
      = H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨t.val * 512 + r.val, by omega⟩ k) := fun k => by
    unfold k0_pay13 k0_pay14 k0_pay10 k0_pay11 k0_pay12
    rw [pay6_at, H_at]
    exact congrArg₂ (fun f g => rms f g k) (funext H1) (funext fun a => (congrFun (full2 _ _) _).trans ((block6 m c t _ _).trans (V28 m c a)))
  refine out_row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r ⟨t.val * 512 + r.val, by omega⟩
    _ (k0_pay13 (iblk m c 0 t) (iblk m c 1 t) (iblk m c 2 t) (iblk m c 3 t) (iblk m c 4 t) (iblk m c 5 t) (iblk m c 6 t) (iblk m c 7 t) (iblk m c 8 t) (iblk m c 9 t)) (k0_pay14 (iblk m c 0 t) (iblk m c 1 t) (iblk m c 2 t) (iblk m c 3 t) (iblk m c 4 t) (iblk m c 5 t) (iblk m c 6 t) (iblk m c 7 t) (iblk m c 8 t) (iblk m c 9 t)) _ _ _ _ _ _ _ _ _ ?_ H2
    (fun i j => (cols2 _ _ 0 rfl _ _ _ (by omega)).trans ((block7 m c t _ _).trans (by rw [V29]; simp only [Nat.zero_add])))
    (fun i j => (rows2 _ _ 0 rfl _ _ _ (by omega)).trans ((block8 m c t _ _).trans (by rw [V30]; simp only [Nat.zero_add])))
    (fun i j => (cols2 _ _ 1024 rfl _ _ _ (by omega)).trans ((block7 m c t _ _).trans (by rw [V29])))
    (fun i j => (rows2 _ _ 1024 rfl _ _ _ (by omega)).trans ((block8 m c t _ _).trans (by rw [V30])))
    (fun i j => (cols2 _ _ 2048 rfl _ _ _ (by omega)).trans ((block7 m c t _ _).trans (by rw [V29])))
    (fun i j => (rows2 _ _ 2048 rfl _ _ _ (by omega)).trans ((block8 m c t _ _).trans (by rw [V30])))
    (fun i j => (cols2 _ _ 3072 rfl _ _ _ (by omega)).trans ((block7 m c t _ _).trans (by rw [V29])))
    (fun i j => (rows2 _ _ 3072 rfl _ _ _ (by omega)).trans ((block8 m c t _ _).trans (by rw [V30])))
    (fun k => (block9 m c t _ _).trans (V31 m c k)) n
  unfold k0_pay10 k0_pay11 k0_pay12
  have e3 : View.ld (iblk m c 3 t) r0_4 = iblk m c 3 t := full2 _ _
  have e0 : View.ld (iblk m c 0 t) r0_14 = iblk m c 0 t := full2 _ _
  refine fun k => Eq.trans ?_ (H1 k)
  exact congrArg₂ (fun ol x => k0_pay5 ol (k0_pay2 (View.ld (iblk m c 1 t) r0_0) (View.ld (iblk m c 5 t) r0_1) (View.ld (iblk m c 2 t) r0_2)
    (View.ld (iblk m c 5 t) r0_3) (View.ld (iblk m c 3 t) r0_4) (View.ld (iblk m c 4 t) r0_5) (View.ld (iblk m c 4 t) r0_6) (View.ld (iblk m c 5 t) r0_7))
    (k0_pay3 (View.ld (iblk m c 3 t) r0_4) (View.ld (iblk m c 4 t) r0_8)) (k0_pay4 (View.ld (iblk m c 3 t) r0_4)) (View.ld (iblk m c 4 t) r0_9)
    (View.ld (iblk m c 5 t) r0_10) (View.ld (iblk m c 4 t) r0_11) (View.ld (iblk m c 4 t) r0_12) (View.ld (iblk m c 5 t) r0_13) x (ix2 r k)) e3.symm e0.symm

/-- The stored block at an index is the reference's entry. -/
theorem point_idx (c : Dev nD) (t : Fin cfg0.N) (ht : t.val < 64) (y : S512x1024.Idx) :

    k0_pay1 (k0_pay5 (iblk m c 3 t) (k0_pay10 (iblk m c 0 t) (iblk m c 1 t) (iblk m c 2 t) (iblk m c 3 t) (iblk m c 4
      t) (iblk m c 5 t) (iblk m c 6 t) (iblk m c 7 t) (iblk m c 8 t) (iblk m c 9 t)) (k0_pay11 (iblk m c 0 t) (iblk m c
      1 t) (iblk m c 2 t) (iblk m c 3 t) (iblk m c 4 t) (iblk m c 5 t) (iblk m c 6 t) (iblk m c 7 t) (iblk m c 8 t)
      (iblk m c 9 t)) (k0_pay12 (iblk m c 0 t) (iblk m c 1 t) (iblk m c 2 t) (iblk m c 3 t) (iblk m c 4 t) (iblk m c 5
      t) (iblk m c 6 t) (iblk m c 7 t) (iblk m c 8 t) (iblk m c 9 t)) (View.ld (iblk m c 4 t) r0_9) (View.ld (iblk m c 5
      t) r0_10) (View.ld (iblk m c 4 t) r0_11) (View.ld (iblk m c 4 t) r0_12) (View.ld (iblk m c 5 t) r0_13) (iblk m c 0
      t)) (k0_pay8 (k0_pay13 (iblk m c 0 t) (iblk m c 1 t) (iblk m c 2 t) (iblk m c 3 t) (iblk m c 4 t) (iblk m c 5 t)
      (iblk m c 6 t) (iblk m c 7 t) (iblk m c 8 t) (iblk m c 9 t)) (k0_pay14 (iblk m c 0 t) (iblk m c 1 t) (iblk m c 2
      t) (iblk m c 3 t) (iblk m c 4 t) (iblk m c 5 t) (iblk m c 6 t) (iblk m c 7 t) (iblk m c 8 t) (iblk m c 9 t)))
      (k0_pay9 (k0_pay13 (iblk m c 0 t) (iblk m c 1 t) (iblk m c 2 t) (iblk m c 3 t) (iblk m c 4 t) (iblk m c 5 t) (iblk
      m c 6 t) (iblk m c 7 t) (iblk m c 8 t) (iblk m c 9 t)) (k0_pay14 (iblk m c 0 t) (iblk m c 1 t) (iblk m c 2 t)
      (iblk m c 3 t) (iblk m c 4 t) (iblk m c 5 t) (iblk m c 6 t) (iblk m c 7 t) (iblk m c 8 t) (iblk m c 9 t)) (View.ld
      (iblk m c 7 t) r0_16) (View.ld (iblk m c 8 t) r0_17) (View.ld (iblk m c 7 t) r0_18) (View.ld (iblk m c 8 t) r0_19)
      (View.ld (iblk m c 7 t) r0_20) (View.ld (iblk m c 8 t) r0_21)) (View.ld (iblk m c 7 t) r0_22) (View.ld (iblk m c 8
      t) r0_23) (iblk m c 9 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (ix2 ⟨t.val * 512 + (y 0).val, by have : (y 0).val < 512 := (y 0).isLt; omega⟩ (y 1)) := by
  have e : y = ix2 (y 0) (y 1) := funext fun a => match a with | 0 => rfl | 1 => rfl
  exact (congrArg _ e).trans (point m c t ht (y 0) (y 1))

/-- The result array after the run is the reference's. -/
theorem final (c : Dev nD) : (dats m 0 c).arrAt 10 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]
  frame_out
  have ht : t.val < 64 := lt_of_lt_of_eq t.isLt N_0
  refine (point_idx m c t ht y).trans ?_
  blk_ext [idx_val t]

end Cert.Kernel2Ideal.Mix

namespace Cert.Proof

open Cert.Kernel2Ideal.Mix in
/-- The mixing kernel and its reference end with the same results. -/
theorem mix_equal : Cert.algebraic_Kernel2Ideal_Reference2Ideal := by
  intro m g m' g' _ hag
  refine ⟨fun c => (Cert.Kernel2Ideal.Gen.dats m 0 c).arrAt 10 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run m' g')
  obtain ⟨h0, h1, h2, h3, h4, h5, h6, h7, h8, h9⟩ := hag c
  rw [Cert.Reference2Ideal.Mix.res_eq, h0, h1, h2, h3, h4, h5, h6, h7, h8, h9]
  exact (final m c).symm

end Cert.Proof
end
-- ==== Proof.ProjFrame.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1620000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S1024x1152 := Rect.unit (s := S1024x1152) ![0, 0] S1024x1152.size inb_S1024x1152_S1024x1152_0_0
abbrev r0_3 : Rect S800x1024 := Rect.unit (s := S800x1024) ![0, 0] S800x1024.size inb_S800x1024_S800x1024_0_0
abbrev r0_4 : Rect S512x128 := Rect.unit (s := S512x128) ![0, 0] S512x128.size inb_S512x128_S512x128_0_0
abbrev r0_5 : Rect S1x512x384 := Rect.unit (s := S1x512x384) ![0, 0, 0] S1x512x128.size inb_S1x512x384_S1x512x128_0_0_0
abbrev r0_6 : Rect S1x512x384 := Rect.unit (s := S1x512x384) ![0, 0, 128] S1x512x128.size inb_S1x512x384_S1x512x128_0_0_128
abbrev r0_7 : Rect S1x512x384 := Rect.unit (s := S1x512x384) ![0, 0, 256] S1x512x128.size inb_S1x512x384_S1x512x128_0_0_256
abbrev r0_8 : Rect S1x512x256 := Rect.unit (s := S1x512x256) ![0, 0, 0] S1x512x128.size inb_S1x512x256_S1x512x128_0_0_0
abbrev r0_9 : Rect S1x512x256 := Rect.unit (s := S1x512x256) ![0, 0, 128] S1x512x128.size inb_S1x512x256_S1x512x128_0_0_128
abbrev r0_10 : Rect S1x256 := Rect.unit (s := S1x256) ![0, 0] S1x256.size inb_S1x256_S1x256_0_0
abbrev r0_11 : Rect S256x384 := Rect.unit (s := S256x384) ![0, 0] S256x384.size inb_S256x384_S256x384_0_0
abbrev r0_12 : Rect S256x768 := Rect.unit (s := S256x768) ![0, 0] S256x768.size inb_S256x768_S256x768_0_0
abbrev r0_13 : Rect S6x64x128 := Rect.unit (s := S6x64x128) ![0, 0, 0] S1x64x128.size inb_S6x64x128_S1x64x128_0_0_0
abbrev r0_14 : Rect S1x512x1536 := Rect.unit (s := S1x512x1536) ![0, 0, 0] S1x512x128.size inb_S1x512x1536_S1x512x128_0_0_0
abbrev r0_15 : Rect S1x512x1536 := Rect.unit (s := S1x512x1536) ![0, 0, 128] S1x512x128.size inb_S1x512x1536_S1x512x128_0_0_128
abbrev r0_16 : Rect S6x64x128 := Rect.unit (s := S6x64x128) ![1, 0, 0] S1x64x128.size inb_S6x64x128_S1x64x128_1_0_0
abbrev r0_17 : Rect S1x512x1536 := Rect.unit (s := S1x512x1536) ![0, 0, 256] S1x512x128.size inb_S1x512x1536_S1x512x128_0_0_256
abbrev r0_18 : Rect S1x512x1536 := Rect.unit (s := S1x512x1536) ![0, 0, 384] S1x512x128.size inb_S1x512x1536_S1x512x128_0_0_384
abbrev r0_19 : Rect S6x64x128 := Rect.unit (s := S6x64x128) ![2, 0, 0] S1x64x128.size inb_S6x64x128_S1x64x128_2_0_0
abbrev r0_20 : Rect S1x512x1536 := Rect.unit (s := S1x512x1536) ![0, 0, 512] S1x512x128.size inb_S1x512x1536_S1x512x128_0_0_512
abbrev r0_21 : Rect S1x512x1536 := Rect.unit (s := S1x512x1536) ![0, 0, 640] S1x512x128.size inb_S1x512x1536_S1x512x128_0_0_640
abbrev r0_22 : Rect S6x64x128 := Rect.unit (s := S6x64x128) ![3, 0, 0] S1x64x128.size inb_S6x64x128_S1x64x128_3_0_0
abbrev r0_23 : Rect S1x512x1536 := Rect.unit (s := S1x512x1536) ![0, 0, 768] S1x512x128.size inb_S1x512x1536_S1x512x128_0_0_768
abbrev r0_24 : Rect S1x512x1536 := Rect.unit (s := S1x512x1536) ![0, 0, 896] S1x512x128.size inb_S1x512x1536_S1x512x128_0_0_896
abbrev r0_25 : Rect S6x64x128 := Rect.unit (s := S6x64x128) ![4, 0, 0] S1x64x128.size inb_S6x64x128_S1x64x128_4_0_0
abbrev r0_26 : Rect S1x512x1536 := Rect.unit (s := S1x512x1536) ![0, 0, 1024] S1x512x128.size inb_S1x512x1536_S1x512x128_0_0_1024
abbrev r0_27 : Rect S1x512x1536 := Rect.unit (s := S1x512x1536) ![0, 0, 1152] S1x512x128.size inb_S1x512x1536_S1x512x128_0_0_1152
abbrev r0_28 : Rect S6x64x128 := Rect.unit (s := S6x64x128) ![5, 0, 0] S1x64x128.size inb_S6x64x128_S1x64x128_5_0_0
abbrev r0_29 : Rect S1x512x1536 := Rect.unit (s := S1x512x1536) ![0, 0, 1280] S1x512x128.size inb_S1x512x1536_S1x512x128_0_0_1280
abbrev r0_30 : Rect S1x512x1536 := Rect.unit (s := S1x512x1536) ![0, 0, 1408] S1x512x128.size inb_S1x512x1536_S1x512x128_0_0_1408
abbrev r0_31 : Rect S1x128 := Rect.unit (s := S1x128) ![0, 0] S1x128.size inb_S1x128_S1x128_0_0
abbrev r0_32 : Rect S1x1x512x128 := Rect.unit (s := S1x1x512x128) ![0, 0, 0, 0] S1x1x512x128.size inb_S1x1x512x128_S1x1x512x128_0_0_0_0
abbrev r0_33 : Rect S32x512 := Rect.unit (s := S32x512) ![0, 0] S32x512.size inb_S32x512_S32x512_0_0
abbrev r0_34 : Rect S16x512 := Rect.unit (s := S16x512) ![0, 0] S16x512.size inb_S16x512_S16x512_0_0
abbrev r0_35 : Rect S1x1x128x512 := Rect.unit (s := S1x1x128x512) ![0, 0, 0, 0] S1x1x32x512.size inb_S1x1x128x512_S1x1x32x512_0_0_0_0
abbrev r0_36 : Rect S1x1x128x512 := Rect.unit (s := S1x1x128x512) ![0, 0, 32, 0] S1x1x32x512.size inb_S1x1x128x512_S1x1x32x512_0_0_32_0
abbrev r0_37 : Rect S1x1x128x512 := Rect.unit (s := S1x1x128x512) ![0, 0, 64, 0] S1x1x32x512.size inb_S1x1x128x512_S1x1x32x512_0_0_64_0
abbrev r0_38 : Rect S1x1x128x512 := Rect.unit (s := S1x1x128x512) ![0, 0, 96, 0] S1x1x32x512.size inb_S1x1x128x512_S1x1x32x512_0_0_96_0
abbrev r0_39 : Rect S1x1x128x512 := Rect.unit (s := S1x1x128x512) ![0, 0, 0, 0] S1x1x128x512.size inb_S1x1x128x512_S1x1x128x512_0_0_0_0
abbrev r0_40 : Rect S1x1x256x512 := Rect.unit (s := S1x1x256x512) ![0, 0, 0, 0] S1x1x16x512.size inb_S1x1x256x512_S1x1x16x512_0_0_0_0
abbrev r0_41 : Rect S1x1x256x512 := Rect.unit (s := S1x1x256x512) ![0, 0, 16, 0] S1x1x16x512.size inb_S1x1x256x512_S1x1x16x512_0_0_16_0
abbrev r0_42 : Rect S1x1x256x512 := Rect.unit (s := S1x1x256x512) ![0, 0, 32, 0] S1x1x16x512.size inb_S1x1x256x512_S1x1x16x512_0_0_32_0
abbrev r0_43 : Rect S1x1x256x512 := Rect.unit (s := S1x1x256x512) ![0, 0, 48, 0] S1x1x16x512.size inb_S1x1x256x512_S1x1x16x512_0_0_48_0
abbrev r0_44 : Rect S1x1x256x512 := Rect.unit (s := S1x1x256x512) ![0, 0, 64, 0] S1x1x16x512.size inb_S1x1x256x512_S1x1x16x512_0_0_64_0
abbrev r0_45 : Rect S1x1x256x512 := Rect.unit (s := S1x1x256x512) ![0, 0, 80, 0] S1x1x16x512.size inb_S1x1x256x512_S1x1x16x512_0_0_80_0
abbrev r0_46 : Rect S1x1x256x512 := Rect.unit (s := S1x1x256x512) ![0, 0, 96, 0] S1x1x16x512.size inb_S1x1x256x512_S1x1x16x512_0_0_96_0
abbrev r0_47 : Rect S1x1x256x512 := Rect.unit (s := S1x1x256x512) ![0, 0, 112, 0] S1x1x16x512.size inb_S1x1x256x512_S1x1x16x512_0_0_112_0
abbrev r0_48 : Rect S1x1x256x512 := Rect.unit (s := S1x1x256x512) ![0, 0, 128, 0] S1x1x16x512.size inb_S1x1x256x512_S1x1x16x512_0_0_128_0
abbrev r0_49 : Rect S1x1x256x512 := Rect.unit (s := S1x1x256x512) ![0, 0, 144, 0] S1x1x16x512.size inb_S1x1x256x512_S1x1x16x512_0_0_144_0
abbrev r0_50 : Rect S1x1x256x512 := Rect.unit (s := S1x1x256x512) ![0, 0, 160, 0] S1x1x16x512.size inb_S1x1x256x512_S1x1x16x512_0_0_160_0
abbrev r0_51 : Rect S1x1x256x512 := Rect.unit (s := S1x1x256x512) ![0, 0, 176, 0] S1x1x16x512.size inb_S1x1x256x512_S1x1x16x512_0_0_176_0
abbrev r0_52 : Rect S1x1x256x512 := Rect.unit (s := S1x1x256x512) ![0, 0, 192, 0] S1x1x16x512.size inb_S1x1x256x512_S1x1x16x512_0_0_192_0
abbrev r0_53 : Rect S1x1x256x512 := Rect.unit (s := S1x1x256x512) ![0, 0, 208, 0] S1x1x16x512.size inb_S1x1x256x512_S1x1x16x512_0_0_208_0
abbrev r0_54 : Rect S1x1x256x512 := Rect.unit (s := S1x1x256x512) ![0, 0, 224, 0] S1x1x16x512.size inb_S1x1x256x512_S1x1x16x512_0_0_224_0
abbrev r0_55 : Rect S1x1x256x512 := Rect.unit (s := S1x1x256x512) ![0, 0, 240, 0] S1x1x16x512.size inb_S1x1x256x512_S1x1x16x512_0_0_240_0
abbrev r0_56 : Rect S1x1x256x512 := Rect.unit (s := S1x1x256x512) ![0, 0, 0, 0] S1x1x256x512.size inb_S1x1x256x512_S1x1x256x512_0_0_0_0
abbrev r0_57 : Rect S1x1x32x512 := Rect.unit (s := S1x1x32x512) ![0, 0, 0, 0] S1x1x16x512.size inb_S1x1x32x512_S1x1x16x512_0_0_0_0
abbrev r0_58 : Rect S1x1x32x512 := Rect.unit (s := S1x1x32x512) ![0, 0, 16, 0] S1x1x16x512.size inb_S1x1x32x512_S1x1x16x512_0_0_16_0

/-! ## What the body leaves in each output window's buffer -/

/-! ### Values of the body that the stores' payloads, spelt out, would write more than once

    Each is a vector the body binds (often a part call's result), stated over the input windows' blocks and
    numbered on from the skeleton's payload functions (`k0_pay101` …, after `k0_pay100`), so that
    `out0_W` and the values after it name it instead of spelling it out; the comment after each is the printed function's
    name for the value (a count appended where that name is bound again). -/

def k0_pay101 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S512x1152 .f32 :=
  k0_pay7 (View.ld x0 r0_0) (View.ld x1 r0_1) (View.ld x2 r0_2) -- `v19`
def k0_pay102 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S800x512 .f32 :=
  k0_pay8 (View.ld x0 r0_0) (View.ld x1 r0_1) (View.ld x3 r0_3) -- `v22`
def k0_pay103 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S512x128 .f32 :=
  k0_pay9 (View.ld x9 r0_4) -- `v24`
def k0_pay104 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S512x128 .f32 :=
  k0_pay10 (View.ld x10 r0_4) -- `v26`
def k0_pay105 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S512x128 .f32 :=
  k0_pay11 (View.ld x11 r0_4) -- `v28`
def k0_pay106 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S512x128 .f32 :=
  k0_pay12 (View.ld x12 r0_4) -- `v30`
def k0_pay107 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S512x256 .f32 :=
  k0_pay21 (k0_pay101 x0 x1 x2 x3 x4 x5 x6 x7 x8 x9 x10 x11 x12 x13 x14 x15 x16) -- `v108`
def k0_pay108 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S1x256 .f32 :=
  k0_pay22 (View.ld x4 r0_10) -- `v110`
def k0_pay109 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S512 .f32 :=
  k0_pay23 (k0_pay101 x0 x1 x2 x3 x4 x5 x6 x7 x8 x9 x10 x11 x12 x13 x14 x15 x16) -- `v112`
def k0_pay110 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S512x384 .f32 :=
  k0_pay25 (k0_pay107 x0 x1 x2 x3 x4 x5 x6 x7 x8 x9 x10 x11 x12 x13 x14 x15 x16) (k0_pay108 x0 x1 x2 x3 x4 x5 x6 x7 x8 x9 x10 x11 x12 x13 x14 x15 x16) (k0_pay109 x0 x1 x2 x3 x4 x5 x6 x7 x8 x9 x10 x11 x12 x13 x14 x15 x16) (View.ld x5 r0_11) -- `v126`
def k0_pay111 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S512x768 .f32 :=
  k0_pay26 (k0_pay107 x0 x1 x2 x3 x4 x5 x6 x7 x8 x9 x10 x11 x12 x13 x14 x15 x16) (k0_pay108 x0 x1 x2 x3 x4 x5 x6 x7 x8 x9 x10 x11 x12 x13 x14 x15 x16) (k0_pay109 x0 x1 x2 x3 x4 x5 x6 x7 x8 x9 x10 x11 x12 x13 x14 x15 x16) (View.ld x6 r0_12) -- `v129`
def k0_pay112 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S32x512 .f32 :=
  k0_pay51 (View.ld x13 r0_33) -- `v319`
def k0_pay113 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S32x512 .f32 :=
  k0_pay52 (View.ld x14 r0_33) -- `v321`
def k0_pay114 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S16x512 .f32 :=
  k0_pay53 (View.ld x15 r0_34) -- `v323`
def k0_pay115 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : FVec F S16x512 .f32 :=
  k0_pay54 (View.ld x16 r0_34) -- `v325`

/-- Window 17's staging buffer after the body, from the input windows' blocks: its 3 stores as pieces, LAST
    FIRST (Lib/Pipeline/FrameBody.lean `View.canon`; the payloads are the skeleton's and the values stated above). -/
def out0_17 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : Vec F S1x512x384 .f32 :=
  View.canon [⟨r0_7, k0_pay18 (k0_pay17 (k0_pay101 x0 x1 x2 x3 x4 x5 x6 x7 x8 x9 x10 x11 x12 x13 x14 x15 x16) (k0_pay103 x0 x1 x2 x3 x4 x5 x6 x7 x8 x9 x10 x11 x12 x13 x14 x15 x16) (k0_pay104 x0 x1 x2 x3 x4 x5 x6 x7 x8 x9 x10 x11 x12 x13 x14 x15 x16))⟩,
    ⟨r0_6, k0_pay16 (k0_pay101 x0 x1 x2 x3 x4 x5 x6 x7 x8 x9 x10 x11 x12 x13 x14 x15 x16) (k0_pay103 x0 x1 x2 x3 x4 x5 x6 x7 x8 x9 x10 x11 x12 x13 x14 x15 x16) (k0_pay104 x0 x1 x2 x3 x4 x5 x6 x7 x8 x9 x10 x11 x12 x13 x14 x15 x16)⟩,
    ⟨r0_5, k0_pay15 (k0_pay103 x0 x1 x2 x3 x4 x5 x6 x7 x8 x9 x10 x11 x12 x13 x14 x15 x16) (k0_pay104 x0 x1 x2 x3 x4 x5 x6 x7 x8 x9 x10 x11 x12 x13 x14 x15 x16) (k0_pay13 (View.ld x0 r0_0) (View.ld x1 r0_1) (View.ld x2 r0_2)) k0_pay14⟩]

/-- Its stores tile the buffer (checked by evaluation), so they cover it. -/
theorem cover0_17 (p0 : Vec F S1x512x128 .f32) (p1 : Vec F S1x512x128 .f32) (p2 : Vec F S1x512x128 .f32) (y : S1x512x384.Idx) :
    ∃ pc ∈ ([⟨r0_7, p0⟩, ⟨r0_6, p1⟩, ⟨r0_5, p2⟩] : List (View.Piece (Elt F) S1x512x384 .f32)), y ∈ pc.1.set :=
  View.cover_of_tiled [⟨r0_7, p0⟩, ⟨r0_6, p1⟩, ⟨r0_5, p2⟩] S1x512x128.size (by rfl) y

/-- Window 18's staging buffer after the body, from the input windows' blocks: its 2 stores as pieces, LAST
    FIRST (Lib/Pipeline/FrameBody.lean `View.canon`; the payloads are the skeleton's and the values stated above). -/
def out0_18 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : Vec F S1x512x256 .bf16 :=
  View.canon [⟨r0_9, k0_pay20 (k0_pay101 x0 x1 x2 x3 x4 x5 x6 x7 x8 x9 x10 x11 x12 x13 x14 x15 x16) (k0_pay105 x0 x1 x2 x3 x4 x5 x6 x7 x8 x9 x10 x11 x12 x13 x14 x15 x16) (k0_pay106 x0 x1 x2 x3 x4 x5 x6 x7 x8 x9 x10 x11 x12 x13 x14 x15 x16)⟩,
    ⟨r0_8, k0_pay19 (k0_pay101 x0 x1 x2 x3 x4 x5 x6 x7 x8 x9 x10 x11 x12 x13 x14 x15 x16) (k0_pay105 x0 x1 x2 x3 x4 x5 x6 x7 x8 x9 x10 x11 x12 x13 x14 x15 x16) (k0_pay106 x0 x1 x2 x3 x4 x5 x6 x7 x8 x9 x10 x11 x12 x13 x14 x15 x16)⟩]

/-- Its stores tile the buffer (checked by evaluation), so they cover it. -/
theorem cover0_18 (p0 : Vec F S1x512x128 .bf16) (p1 : Vec F S1x512x128 .bf16) (y : S1x512x256.Idx) :
    ∃ pc ∈ ([⟨r0_9, p0⟩, ⟨r0_8, p1⟩] : List (View.Piece (Elt F) S1x512x256 .bf16)), y ∈ pc.1.set :=
  View.cover_of_tiled [⟨r0_9, p0⟩, ⟨r0_8, p1⟩] S1x512x128.size (by rfl) y

/-- Window 19's staging buffer after the body, from the input windows' blocks: its 12 stores as pieces, LAST
    FIRST (Lib/Pipeline/FrameBody.lean `View.canon`; the payloads are the skeleton's and the values stated above). -/
def out0_19 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : Vec F S1x512x1536 .bf16 :=
  View.canon [⟨r0_30, k0_pay45 (k0_pay105 x0 x1 x2 x3 x4 x5 x6 x7 x8 x9 x10 x11 x12 x13 x14 x15 x16) (k0_pay106 x0 x1 x2 x3 x4 x5 x6 x7 x8 x9 x10 x11 x12 x13 x14 x15 x16) (k0_pay43 (k0_pay111 x0 x1 x2 x3 x4 x5 x6 x7 x8 x9 x10 x11 x12 x13 x14 x15 x16))⟩,
    ⟨r0_29, k0_pay44 (k0_pay42 (k0_pay110 x0 x1 x2 x3 x4 x5 x6 x7 x8 x9 x10 x11 x12 x13 x14 x15 x16) (View.ld x7 r0_28))⟩,
    ⟨r0_27, k0_pay41 (k0_pay105 x0 x1 x2 x3 x4 x5 x6 x7 x8 x9 x10 x11 x12 x13 x14 x15 x16) (k0_pay106 x0 x1 x2 x3 x4 x5 x6 x7 x8 x9 x10 x11 x12 x13 x14 x15 x16) (k0_pay111 x0 x1 x2 x3 x4 x5 x6 x7 x8 x9 x10 x11 x12 x13 x14 x15 x16)⟩,
    ⟨r0_26, k0_pay40 (k0_pay110 x0 x1 x2 x3 x4 x5 x6 x7 x8 x9 x10 x11 x12 x13 x14 x15 x16) (View.ld x7 r0_25)⟩,
    ⟨r0_24, k0_pay39 (k0_pay37 (k0_pay105 x0 x1 x2 x3 x4 x5 x6 x7 x8 x9 x10 x11 x12 x13 x14 x15 x16) (k0_pay106 x0 x1 x2 x3 x4 x5 x6 x7 x8 x9 x10 x11 x12 x13 x14 x15 x16) (k0_pay111 x0 x1 x2 x3 x4 x5 x6 x7 x8 x9 x10 x11 x12 x13 x14 x15 x16))⟩,
    ⟨r0_23, k0_pay38 (k0_pay110 x0 x1 x2 x3 x4 x5 x6 x7 x8 x9 x10 x11 x12 x13 x14 x15 x16) (View.ld x7 r0_22)⟩,
    ⟨r0_21, k0_pay36 (k0_pay105 x0 x1 x2 x3 x4 x5 x6 x7 x8 x9 x10 x11 x12 x13 x14 x15 x16) (k0_pay106 x0 x1 x2 x3 x4 x5 x6 x7 x8 x9 x10 x11 x12 x13 x14 x15 x16) (k0_pay33 (k0_pay111 x0 x1 x2 x3 x4 x5 x6 x7 x8 x9 x10 x11 x12 x13 x14 x15 x16)) (iota .tc S512x128 32 [1] iota_S512x128_d1_w32) k0_pay34⟩,
    ⟨r0_20, k0_pay35 (k0_pay32 (k0_pay110 x0 x1 x2 x3 x4 x5 x6 x7 x8 x9 x10 x11 x12 x13 x14 x15 x16) (View.ld x7 r0_19))⟩,
    ⟨r0_18, k0_pay31 (k0_pay105 x0 x1 x2 x3 x4 x5 x6 x7 x8 x9 x10 x11 x12 x13 x14 x15 x16) (k0_pay106 x0 x1 x2 x3 x4 x5 x6 x7 x8 x9 x10 x11 x12 x13 x14 x15 x16) (k0_pay111 x0 x1 x2 x3 x4 x5 x6 x7 x8 x9 x10 x11 x12 x13 x14 x15 x16)⟩,
    ⟨r0_17, k0_pay30 (k0_pay110 x0 x1 x2 x3 x4 x5 x6 x7 x8 x9 x10 x11 x12 x13 x14 x15 x16) (View.ld x7 r0_16)⟩,
    ⟨r0_15, k0_pay29 (k0_pay28 (k0_pay105 x0 x1 x2 x3 x4 x5 x6 x7 x8 x9 x10 x11 x12 x13 x14 x15 x16) (k0_pay106 x0 x1 x2 x3 x4 x5 x6 x7 x8 x9 x10 x11 x12 x13 x14 x15 x16) (k0_pay107 x0 x1 x2 x3 x4 x5 x6 x7 x8 x9 x10 x11 x12 x13 x14 x15 x16) (k0_pay108 x0 x1 x2 x3 x4 x5 x6 x7 x8 x9 x10 x11 x12 x13 x14 x15 x16) (k0_pay109 x0 x1 x2 x3 x4 x5 x6 x7 x8 x9 x10 x11 x12 x13 x14 x15 x16) (View.ld x6 r0_12))⟩,
    ⟨r0_14, k0_pay27 (k0_pay107 x0 x1 x2 x3 x4 x5 x6 x7 x8 x9 x10 x11 x12 x13 x14 x15 x16) (k0_pay108 x0 x1 x2 x3 x4 x5 x6 x7 x8 x9 x10 x11 x12 x13 x14 x15 x16) (k0_pay109 x0 x1 x2 x3 x4 x5 x6 x7 x8 x9 x10 x11 x12 x13 x14 x15 x16) (View.ld x5 r0_11) (View.ld x7 r0_13)⟩]

/-- Its stores tile the buffer (checked by evaluation), so they cover it. -/
theorem cover0_19 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (p8 : Vec F S1x512x128 .bf16) (p9 : Vec F S1x512x128 .bf16) (p10 : Vec F S1x512x128 .bf16) (p11 : Vec F S1x512x128 .bf16) (y : S1x512x1536.Idx) :
    ∃ pc ∈ ([⟨r0_30, p0⟩, ⟨r0_29, p1⟩, ⟨r0_27, p2⟩, ⟨r0_26, p3⟩, ⟨r0_24, p4⟩, ⟨r0_23, p5⟩, ⟨r0_21, p6⟩, ⟨r0_20, p7⟩, ⟨r0_18, p8⟩, ⟨r0_17, p9⟩, ⟨r0_15, p10⟩, ⟨r0_14, p11⟩] : List (View.Piece (Elt F) S1x512x1536 .bf16)), y ∈ pc.1.set :=
  View.cover_of_tiled [⟨r0_30, p0⟩, ⟨r0_29, p1⟩, ⟨r0_27, p2⟩, ⟨r0_26, p3⟩, ⟨r0_24, p4⟩, ⟨r0_23, p5⟩, ⟨r0_21, p6⟩, ⟨r0_20, p7⟩, ⟨r0_18, p8⟩, ⟨r0_17, p9⟩, ⟨r0_15, p10⟩, ⟨r0_14, p11⟩] S1x512x128.size (by rfl) y

/-- Window 20's staging buffer after the body, from the input windows' blocks: its 2 stores as pieces, LAST
    FIRST (Lib/Pipeline/FrameBody.lean `View.canon`; the payloads are the skeleton's and the values stated above). -/
def out0_20 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : Vec F S1x512x256 .bf16 :=
  View.canon [⟨r0_9, k0_pay50 (k0_pay101 x0 x1 x2 x3 x4 x5 x6 x7 x8 x9 x10 x11 x12 x13 x14 x15 x16) (k0_pay105 x0 x1 x2 x3 x4 x5 x6 x7 x8 x9 x10 x11 x12 x13 x14 x15 x16) (k0_pay106 x0 x1 x2 x3 x4 x5 x6 x7 x8 x9 x10 x11 x12 x13 x14 x15 x16)⟩,
    ⟨r0_8, k0_pay49 (k0_pay48 (k0_pay101 x0 x1 x2 x3 x4 x5 x6 x7 x8 x9 x10 x11 x12 x13 x14 x15 x16) (View.ld x8 r0_31))⟩]

/-- Its stores tile the buffer (checked by evaluation), so they cover it. -/
theorem cover0_20 (p0 : Vec F S1x512x128 .bf16) (p1 : Vec F S1x512x128 .bf16) (y : S1x512x256.Idx) :
    ∃ pc ∈ ([⟨r0_9, p0⟩, ⟨r0_8, p1⟩] : List (View.Piece (Elt F) S1x512x256 .bf16)), y ∈ pc.1.set :=
  View.cover_of_tiled [⟨r0_9, p0⟩, ⟨r0_8, p1⟩] S1x512x128.size (by rfl) y

/-- Window 21's staging buffer after the body, from the input windows' blocks: its 1 store as pieces, LAST
    FIRST (Lib/Pipeline/FrameBody.lean `View.canon`; the payloads are the skeleton's and the values stated above). -/
def out0_21 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : Vec F S1x1x512x128 .f32 :=
  View.canon [⟨r0_32, k0_pay47 (k0_pay101 x0 x1 x2 x3 x4 x5 x6 x7 x8 x9 x10 x11 x12 x13 x14 x15 x16) (View.ld x8 r0_31)⟩]

/-- Its stores tile the buffer (checked by evaluation), so they cover it. -/
theorem cover0_21 (p0 : Vec F S1x1x512x128 .f32) (y : S1x1x512x128.Idx) :
    ∃ pc ∈ ([⟨r0_32, p0⟩] : List (View.Piece (Elt F) S1x1x512x128 .f32)), y ∈ pc.1.set :=
  View.cover_of_tiled [⟨r0_32, p0⟩] S1x1x512x128.size (by rfl) y

/-- Window 22's staging buffer after the body, from the input windows' blocks: its 4 stores as pieces, LAST
    FIRST (Lib/Pipeline/FrameBody.lean `View.canon`; the payloads are the skeleton's and the values stated above). -/
def out0_22 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : Vec F S1x1x128x512 .f32 :=
  View.canon [⟨r0_38, k0_pay62 (k0_pay102 x0 x1 x2 x3 x4 x5 x6 x7 x8 x9 x10 x11 x12 x13 x14 x15 x16) (k0_pay112 x0 x1 x2 x3 x4 x5 x6 x7 x8 x9 x10 x11 x12 x13 x14 x15 x16) (k0_pay113 x0 x1 x2 x3 x4 x5 x6 x7 x8 x9 x10 x11 x12 x13 x14 x15 x16)⟩,
    ⟨r0_37, k0_pay61 (k0_pay102 x0 x1 x2 x3 x4 x5 x6 x7 x8 x9 x10 x11 x12 x13 x14 x15 x16) (k0_pay112 x0 x1 x2 x3 x4 x5 x6 x7 x8 x9 x10 x11 x12 x13 x14 x15 x16) (k0_pay113 x0 x1 x2 x3 x4 x5 x6 x7 x8 x9 x10 x11 x12 x13 x14 x15 x16)⟩,
    ⟨r0_36, k0_pay58 (k0_pay112 x0 x1 x2 x3 x4 x5 x6 x7 x8 x9 x10 x11 x12 x13 x14 x15 x16) (k0_pay113 x0 x1 x2 x3 x4 x5 x6 x7 x8 x9 x10 x11 x12 x13 x14 x15 x16) (k0_pay55 (k0_pay102 x0 x1 x2 x3 x4 x5 x6 x7 x8 x9 x10 x11 x12 x13 x14 x15 x16)) (k0_pay56 (k0_pay102 x0 x1 x2 x3 x4 x5 x6 x7 x8 x9 x10 x11 x12 x13 x14 x15 x16))⟩,
    ⟨r0_35, k0_pay57 (k0_pay102 x0 x1 x2 x3 x4 x5 x6 x7 x8 x9 x10 x11 x12 x13 x14 x15 x16) (View.ld x13 r0_33) (View.ld x14 r0_33)⟩]

/-- Its stores tile the buffer (checked by evaluation), so they cover it. -/
theorem cover0_22 (p0 : Vec F S1x1x32x512 .f32) (p1 : Vec F S1x1x32x512 .f32) (p2 : Vec F S1x1x32x512 .f32) (p3 : Vec F S1x1x32x512 .f32) (y : S1x1x128x512.Idx) :
    ∃ pc ∈ ([⟨r0_38, p0⟩, ⟨r0_37, p1⟩, ⟨r0_36, p2⟩, ⟨r0_35, p3⟩] : List (View.Piece (Elt F) S1x1x128x512 .f32)), y ∈ pc.1.set :=
  View.cover_of_tiled [⟨r0_38, p0⟩, ⟨r0_37, p1⟩, ⟨r0_36, p2⟩, ⟨r0_35, p3⟩] S1x1x32x512.size (by rfl) y

/-- Window 23's staging buffer after the body, from the input windows' blocks: its 1 store as pieces, LAST
    FIRST (Lib/Pipeline/FrameBody.lean `View.canon`; the payloads are the skeleton's and the values stated above). -/
def out0_23 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : Vec F S1x1x128x512 .f32 :=
  View.canon [⟨r0_39, k0_pay63 (k0_pay102 x0 x1 x2 x3 x4 x5 x6 x7 x8 x9 x10 x11 x12 x13 x14 x15 x16)⟩]

/-- Its stores tile the buffer (checked by evaluation), so they cover it. -/
theorem cover0_23 (p0 : Vec F S1x1x128x512 .f32) (y : S1x1x128x512.Idx) :
    ∃ pc ∈ ([⟨r0_39, p0⟩] : List (View.Piece (Elt F) S1x1x128x512 .f32)), y ∈ pc.1.set :=
  View.cover_of_tiled [⟨r0_39, p0⟩] S1x1x128x512.size (by rfl) y

/-- Window 24's staging buffer after the body, from the input windows' blocks: its 16 stores as pieces, LAST
    FIRST (Lib/Pipeline/FrameBody.lean `View.canon`; the payloads are the skeleton's and the values stated above). -/
def out0_24 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : Vec F S1x1x256x512 .f32 :=
  View.canon [⟨r0_55, k0_pay99 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_54, k0_pay98 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_53, k0_pay95 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_52, k0_pay94 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_51, k0_pay91 (k0_pay90 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16))⟩,
    ⟨r0_50, k0_pay89 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_49, k0_pay86 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_48, k0_pay85 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_47, k0_pay82 (k0_pay114 x0 x1 x2 x3 x4 x5 x6 x7 x8 x9 x10 x11 x12 x13 x14 x15 x16) (k0_pay115 x0 x1 x2 x3 x4 x5 x6 x7 x8 x9 x10 x11 x12 x13 x14 x15 x16) (k0_pay77 (k0_pay102 x0 x1 x2 x3 x4 x5 x6 x7 x8 x9 x10 x11 x12 x13 x14 x15 x16)) (k0_pay78 (k0_pay102 x0 x1 x2 x3 x4 x5 x6 x7 x8 x9 x10 x11 x12 x13 x14 x15 x16))⟩,
    ⟨r0_46, k0_pay81 (k0_pay79 (k0_pay102 x0 x1 x2 x3 x4 x5 x6 x7 x8 x9 x10 x11 x12 x13 x14 x15 x16) (k0_pay114 x0 x1 x2 x3 x4 x5 x6 x7 x8 x9 x10 x11 x12 x13 x14 x15 x16)) (k0_pay80 (k0_pay102 x0 x1 x2 x3 x4 x5 x6 x7 x8 x9 x10 x11 x12 x13 x14 x15 x16) (k0_pay115 x0 x1 x2 x3 x4 x5 x6 x7 x8 x9 x10 x11 x12 x13 x14 x15 x16))⟩,
    ⟨r0_45, k0_pay76 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_44, k0_pay75 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_43, k0_pay72 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_42, k0_pay71 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_41, k0_pay68 (k0_pay67 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16))⟩,
    ⟨r0_40, k0_pay66 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩]

/-- Its stores tile the buffer (checked by evaluation), so they cover it. -/
theorem cover0_24 (p0 : Vec F S1x1x16x512 .f32) (p1 : Vec F S1x1x16x512 .f32) (p2 : Vec F S1x1x16x512 .f32) (p3 : Vec F S1x1x16x512 .f32) (p4 : Vec F S1x1x16x512 .f32) (p5 : Vec F S1x1x16x512 .f32) (p6 : Vec F S1x1x16x512 .f32) (p7 : Vec F S1x1x16x512 .f32) (p8 : Vec F S1x1x16x512 .f32) (p9 : Vec F S1x1x16x512 .f32) (p10 : Vec F S1x1x16x512 .f32) (p11 : Vec F S1x1x16x512 .f32) (p12 : Vec F S1x1x16x512 .f32) (p13 : Vec F S1x1x16x512 .f32) (p14 : Vec F S1x1x16x512 .f32) (p15 : Vec F S1x1x16x512 .f32) (y : S1x1x256x512.Idx) :
    ∃ pc ∈ ([⟨r0_55, p0⟩, ⟨r0_54, p1⟩, ⟨r0_53, p2⟩, ⟨r0_52, p3⟩, ⟨r0_51, p4⟩, ⟨r0_50, p5⟩, ⟨r0_49, p6⟩, ⟨r0_48, p7⟩, ⟨r0_47, p8⟩, ⟨r0_46, p9⟩, ⟨r0_45, p10⟩, ⟨r0_44, p11⟩, ⟨r0_43, p12⟩, ⟨r0_42, p13⟩, ⟨r0_41, p14⟩, ⟨r0_40, p15⟩] : List (View.Piece (Elt F) S1x1x256x512 .f32)), y ∈ pc.1.set :=
  View.cover_of_tiled [⟨r0_55, p0⟩, ⟨r0_54, p1⟩, ⟨r0_53, p2⟩, ⟨r0_52, p3⟩, ⟨r0_51, p4⟩, ⟨r0_50, p5⟩, ⟨r0_49, p6⟩, ⟨r0_48, p7⟩, ⟨r0_47, p8⟩, ⟨r0_46, p9⟩, ⟨r0_45, p10⟩, ⟨r0_44, p11⟩, ⟨r0_43, p12⟩, ⟨r0_42, p13⟩, ⟨r0_41, p14⟩, ⟨r0_40, p15⟩] S1x1x16x512.size (by rfl) y

/-- Window 25's staging buffer after the body, from the input windows' blocks: its 1 store as pieces, LAST
    FIRST (Lib/Pipeline/FrameBody.lean `View.canon`; the payloads are the skeleton's and the values stated above). -/
def out0_25 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : Vec F S1x1x256x512 .f32 :=
  View.canon [⟨r0_56, k0_pay1 (k0_pay100 (k0_pay102 x0 x1 x2 x3 x4 x5 x6 x7 x8 x9 x10 x11 x12 x13 x14 x15 x16))⟩]

/-- Its stores tile the buffer (checked by evaluation), so they cover it. -/
theorem cover0_25 (p0 : Vec F S1x1x256x512 .f32) (y : S1x1x256x512.Idx) :
    ∃ pc ∈ ([⟨r0_56, p0⟩] : List (View.Piece (Elt F) S1x1x256x512 .f32)), y ∈ pc.1.set :=
  View.cover_of_tiled [⟨r0_56, p0⟩] S1x1x256x512.size (by rfl) y

/-- Window 26's staging buffer after the body, from the input windows' blocks: its 2 stores as pieces, LAST
    FIRST (Lib/Pipeline/FrameBody.lean `View.canon`; the payloads are the skeleton's and the values stated above). -/
def out0_26 (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) : Vec F S1x1x32x512 .f32 :=
  View.canon [⟨r0_58, k0_pay5 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩,
    ⟨r0_57, k0_pay4 (k0_pay102 x0 x1 x2 x3 x4 x5 x6 x7 x8 x9 x10 x11 x12 x13 x14 x15 x16) (k0_pay114 x0 x1 x2 x3 x4 x5 x6 x7 x8 x9 x10 x11 x12 x13 x14 x15 x16) (k0_pay115 x0 x1 x2 x3 x4 x5 x6 x7 x8 x9 x10 x11 x12 x13 x14 x15 x16)⟩]

/-- Its stores tile the buffer (checked by evaluation), so they cover it. -/
theorem cover0_26 (p0 : Vec F S1x1x16x512 .f32) (p1 : Vec F S1x1x16x512 .f32) (y : S1x1x32x512.Idx) :
    ∃ pc ∈ ([⟨r0_58, p0⟩, ⟨r0_57, p1⟩] : List (View.Piece (Elt F) S1x1x32x512 .f32)), y ∈ pc.1.set :=
  View.cover_of_tiled [⟨r0_58, p0⟩, ⟨r0_57, p1⟩] S1x1x16x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1152 .bf16) (harg4 : arg4.IsWhole) (arg5 : Memref sig .tc .vmem S800x1024 .bf16) (harg5 : arg5.IsWhole) (arg6 : Memref sig .tc .vmem S1x256 .f32) (harg6 : arg6.IsWhole) (arg7 : Memref sig .tc .vmem S256x384 .bf16) (harg7 : arg7.IsWhole) (arg8 : Memref sig .tc .vmem S256x768 .bf16) (harg8 : arg8.IsWhole) (arg9 : Memref sig .tc .vmem S6x64x128 .bf16) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S16x512 .f32) (harg17 : arg17.IsWhole) (arg18 : Memref sig .tc .vmem S16x512 .f32) (harg18 : arg18.IsWhole) (arg19 : Memref sig .tc .vmem S1x512x384 .f32) (harg19 : arg19.IsWhole) (arg20 : Memref sig .tc .vmem S1x512x256 .bf16) (harg20 : arg20.IsWhole) (arg21 : Memref sig .tc .vmem S1x512x1536 .bf16) (harg21 : arg21.IsWhole) (arg22 : Memref sig .tc .vmem S1x512x256 .bf16) (harg22 : arg22.IsWhole) (arg23 : Memref sig .tc .vmem S1x1x512x128 .f32) (harg23 : arg23.IsWhole) (arg24 : Memref sig .tc .vmem S1x1x128x512 .f32) (harg24 : arg24.IsWhole) (arg25 : Memref sig .tc .vmem S1x1x128x512 .f32) (harg25 : arg25.IsWhole) (arg26 : Memref sig .tc .vmem S1x1x256x512 .f32) (harg26 : arg26.IsWhole) (arg27 : Memref sig .tc .vmem S1x1x256x512 .f32) (harg27 : arg27.IsWhole) (arg28 : Memref sig .tc .vmem S1x1x32x512 .f32) (harg28 : arg28.IsWhole)
    (x0 : Vec F S1x512x1024 .f32) (x1 : Vec F S1x1024 .f32) (x2 : Vec F S1024x1152 .bf16) (x3 : Vec F S800x1024 .bf16) (x4 : Vec F S1x256 .f32) (x5 : Vec F S256x384 .bf16) (x6 : Vec F S256x768 .bf16) (x7 : Vec F S6x64x128 .bf16) (x8 : Vec F S1x128 .f32) (x9 : Vec F S512x128 .f32) (x10 : Vec F S512x128 .f32) (x11 : Vec F S512x128 .f32) (x12 : Vec F S512x128 .f32) (x13 : Vec F S32x512 .f32) (x14 : Vec F S32x512 .f32) (x15 : Vec F S16x512 .f32) (x16 : Vec F S16x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare (out0_17 x0 x1 x2 x3 x4 x5 x6 x7 x8 x9 x10 x11 x12 x13 x14 x15 x16) ∗ owns (c : Thread nD τ) arg20 fullShare (out0_18 x0 x1 x2 x3 x4 x5 x6 x7 x8 x9 x10 x11 x12 x13 x14 x15 x16) ∗ owns (c : Thread nD τ) arg21 fullShare (out0_19 x0 x1 x2 x3 x4 x5 x6 x7 x8 x9 x10 x11 x12 x13 x14 x15 x16) ∗ owns (c : Thread nD τ) arg22 fullShare (out0_20 x0 x1 x2 x3 x4 x5 x6 x7 x8 x9 x10 x11 x12 x13 x14 x15 x16) ∗ owns (c : Thread nD τ) arg23 fullShare (out0_21 x0 x1 x2 x3 x4 x5 x6 x7 x8 x9 x10 x11 x12 x13 x14 x15 x16) ∗ owns (c : Thread nD τ) arg24 fullShare (out0_22 x0 x1 x2 x3 x4 x5 x6 x7 x8 x9 x10 x11 x12 x13 x14 x15 x16) ∗ owns (c : Thread nD τ) arg25 fullShare (out0_23 x0 x1 x2 x3 x4 x5 x6 x7 x8 x9 x10 x11 x12 x13 x14 x15 x16) ∗ owns (c : Thread nD τ) arg26 fullShare (out0_24 x0 x1 x2 x3 x4 x5 x6 x7 x8 x9 x10 x11 x12 x13 x14 x15 x16) ∗ owns (c : Thread nD τ) arg27 fullShare (out0_25 x0 x1 x2 x3 x4 x5 x6 x7 x8 x9 x10 x11 x12 x13 x14 x15 x16) ∗ owns (c : Thread nD τ) arg28 fullShare (out0_26 x0 x1 x2 x3 x4 x5 x6 x7 x8 x9 x10 x11 x12 x13 x14 x15 x16)) -∗ K ⟨⟩))
      ⊢ wp frame (wpE (defs₀ (F := F)) Variants.none c none) E (cc0_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_projection_eq_skeleton]; unfold cc0_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _ _ _)).trans ?_
    rfl
  isplitl [H18]
  · iexists _; isplitr
    swap; · iexact H18
    ipureintro
    refine (View.read_writes_eq_canon _ _ _ (cover0_18 _ _)).trans ?_
    rfl
  isplitl [H19]
  · iexists _; isplitr
    swap; · iexact H19
    ipureintro
    refine (View.read_writes_eq_canon _ _ _ (cover0_19 _ _ _ _ _ _ _ _ _ _ _ _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _ _ _ _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _ _ _ _ _ _ _ _ _ _ _ _ _ _ _ _)).trans ?_
    rfl
  isplitl [H25]
  · iexists _; isplitr
    swap; · iexact H25
    ipureintro
    refine (View.read_writes_eq_canon _ _ _ (cover0_25 _)).trans ?_
    rfl
  iexists _; isplitr
  swap; · iexact H26
  ipureintro
  refine (View.read_writes_eq_canon _ _ _ (cover0_26 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 2000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the run ends, the arguments stay, and the counters are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel3Ideal.Gen

end
-- ==== Proof.ProjSpec.lean ====
module

public import proofs.«01_k».proof.Reference3Ideal
public import Idealize.ShloMosaic.Lib.Pipeline.ValueKit
@[expose] public section

set_option maxRecDepth 16384

noncomputable section

open Idealize.ShloMosaic Idealize.ShloMosaic.TcCoe Idealize.SL.Sem
open scoped BigOperators
namespace Cert.Proj
open Cert.Reference3Ideal

/-- A row of the prompt, normalised and scaled: the hidden activation the projection multiplies. -/
def hid (x : FVec Ideal S16x2048x1024 .f32) (g : FVec Ideal S1024 .f32) (b : Fin 16) (s : Fin 2048) (k : Fin 1024) : EReal :=
  x (ix3 b s k) * Ideal.rsqrt (Ideal.div (∑ j : Fin 1024, x (ix3 b s j) * x (ix3 b s j)) (Ideal.ofBits .f32 1149239296#32)
    + Ideal.ofBits .f32 897988541#32) * g (ix1 k)

/-- The weight at a row and a column, zero past the last column. -/
def wgt (w : FVec Ideal S1024x1824 .f32) (k : Fin 1024) (n : ℕ) : EReal :=
  if h : n < 1824 then w (ix2 k ⟨n, h⟩) else 0

/-- The projected activation of a token at a column. -/
def Z (x : FVec Ideal S16x2048x1024 .f32) (g : FVec Ideal S1024 .f32) (w : FVec Ideal S1024x1824 .f32)
    (b : Fin 16) (s : Fin 2048) (n : ℕ) : EReal := ∑ k : Fin 1024, hid x g b s k * wgt w k n

/-- The angle of a position at a frequency; the step between frequencies is the bit pattern's. -/
def ang (step : BitVec 32) (s n : ℕ) : EReal :=
  FloatOps.sitofp (F := Ideal) .f32 (BitVec.ofNat 32 s) * Ideal.div 1 (Ideal.pow (Ideal.ofBits .f32 1176256512#32)
    (FloatOps.sitofp (F := Ideal) .f32 (BitVec.ofNat 32 n) * Ideal.ofBits .f32 step))

/-- A row of heads of 2·half entries, from a base on, with each head rotated by the angles. -/
def rot (z θ : ℕ → EReal) (half base l : ℕ) : EReal :=
  if l % (2 * half) < half then
    z (base + l) * Ideal.cos (θ (l % (2 * half))) - z (base + l + half) * Ideal.sin (θ (l % (2 * half)))
  else z (base + l) * Ideal.cos (θ (l % (2 * half) - half)) + z (base + l - half) * Ideal.sin (θ (l % (2 * half) - half))

/-- The first half of a head, rotated. -/
theorem rot_lo (z θ : ℕ → EReal) (half base o n l a b : ℕ) (hn : n < half) (ho : o % (2 * half) = 0) (hl : l = o + n)
    (ha : a = base + l) (hb : b = base + l + half) :
    z a * Ideal.cos (θ n) - z b * Ideal.sin (θ n) = rot z θ half base l := by
  have e : l % (2 * half) = n := by rw [hl, Nat.add_mod, ho, Nat.zero_add, Nat.mod_mod, Nat.mod_eq_of_lt (by omega)]
  unfold rot
  rw [e, if_pos hn, ha, hb]

/-- The second half of a head, rotated. -/
theorem rot_hi (z θ : ℕ → EReal) (half base o n l a b : ℕ) (hn : n < half) (ho : o % (2 * half) = 0) (hl : l = o + (half + n))
    (ha : a = base + l) (hb : b + half = base + l) :
    z a * Ideal.cos (θ n) + z b * Ideal.sin (θ n) = rot z θ half base l := by
  have e : l % (2 * half) = half + n := by rw [hl, Nat.add_mod, ho, Nat.zero_add, Nat.mod_mod, Nat.mod_eq_of_lt (by omega)]
  unfold rot
  rw [e, if_neg (by omega), ha, show base + l - half = b by omega, show half + n - half = n by omega]

/-- The latent row: a stretch of the projection, normalised and scaled. -/
def lat (x : FVec Ideal S16x2048x1024 .f32) (g : FVec Ideal S1024 .f32) (w : FVec Ideal S1024x1824 .f32) (gk : FVec Ideal S128 .f32)
    (b : Fin 16) (s : Fin 2048) (n : Fin 128) : EReal :=
  Z x g w b s (1664 + n) * Ideal.rsqrt (Ideal.div (∑ j : Fin 128, Z x g w b s (1664 + j) * Z x g w b s (1664 + j))
    (Ideal.ofBits .f32 1124073472#32) + Ideal.ofBits .f32 897988541#32) * gk (ix1 n)

/-- The latent rows of the cache. -/
def CKV (x : FVec Ideal S16x2048x1024 .f32) (g : FVec Ideal S1024 .f32) (w : FVec Ideal S1024x1824 .f32) (gk : FVec Ideal S128 .f32) :
    FVec Ideal S1x16x2048x128 .f32 := fun i => lat x g w gk (i 1) (i 2) (i 3)

/-- The block attention's keys. -/
def MK (x : FVec Ideal S16x2048x1024 .f32) (g : FVec Ideal S1024 .f32) (w : FVec Ideal S1024x1824 .f32) :
    FVec Ideal S1x16x128x2048 .f32 := fun i => rot (Z x g w (i 1) (i 3)) (ang 1023410176#32 (i 3).val) 32 384 (i 2).val

/-- The block attention's values. -/
def MV (x : FVec Ideal S16x2048x1024 .f32) (g : FVec Ideal S1024 .f32) (w : FVec Ideal S1024x1824 .f32) :
    FVec Ideal S1x16x128x2048 .f32 := fun i => Z x g w (i 1) (i 3) (512 + (i 2).val)

/-- The differential attention's keys. -/
def DK (x : FVec Ideal S16x2048x1024 .f32) (g : FVec Ideal S1024 .f32) (w : FVec Ideal S1024x1824 .f32) :
    FVec Ideal S1x16x256x2048 .f32 := fun i => rot (Z x g w (i 1) (i 3)) (ang 1031798784#32 (i 3).val) 16 896 (i 2).val

/-- The differential attention's values. -/
def DV (x : FVec Ideal S16x2048x1024 .f32) (g : FVec Ideal S1024 .f32) (w : FVec Ideal S1024x1824 .f32) :
    FVec Ideal S1x16x256x2048 .f32 := fun i => Z x g w (i 1) (i 3) (1152 + (i 2).val)

/-- The rotary key of the latent attention. -/
def KPE (x : FVec Ideal S16x2048x1024 .f32) (g : FVec Ideal S1024 .f32) (w : FVec Ideal S1024x1824 .f32) :
    FVec Ideal S1x16x32x2048 .f32 := fun i => rot (Z x g w (i 1) (i 3)) (ang 1031798784#32 (i 3).val) 16 1792 (i 2).val

end Cert.Proj
end
-- ==== Proof.ProjW.lean ====
module

public import proofs.«01_k».proof.Proof.ProjFrame
public import proofs.«01_k».proof.Proof.ProjSpec
public import Idealize.ShloMosaic.Lib.Claim
@[expose] public section

set_option maxRecDepth 16384

noncomputable section

open Idealize.ShloMosaic Idealize.ShloMosaic.TcCoe Idealize.SL.Sem
open scoped BigOperators
namespace Cert.Kernel3Ideal.Proj
open Cert.Kernel3Ideal Cert.Kernel3Ideal.Gen
open Cert.Proj
variable (m : (ℓ : Loc nD τ sig) → Buf (Elt Ideal) ℓ) (c : Dev nD)
/-- The cosines of the wider heads, positions last. -/
theorem V50 (n : Fin 32) (s : Fin 2048) : (V m c main_v50 : FVec Ideal S32x2048 .f32) (ix2 n s) = Ideal.cos (ang 1023410176#32 s.val n.val) := by
  unfold V
  simp only [hostOps0, hostOps0_1, hostOps0_2, List.flatten_cons, List.flatten_nil, List.append_nil, List.cons_append, List.nil_append]
  after_results
  pointwise
  try rfl
/-- The sines of the wider heads, positions last. -/
theorem V51 (n : Fin 32) (s : Fin 2048) : (V m c main_v51 : FVec Ideal S32x2048 .f32) (ix2 n s) = Ideal.sin (ang 1023410176#32 s.val n.val) := by
  unfold V
  simp only [hostOps0, hostOps0_1, hostOps0_2, List.flatten_cons, List.flatten_nil, List.append_nil, List.cons_append, List.nil_append]
  after_results
  pointwise
  try rfl
/-- The cosines of the narrower heads, positions last. -/
theorem V75 (n : Fin 16) (s : Fin 2048) : (V m c main_v75 : FVec Ideal S16x2048 .f32) (ix2 n s) = Ideal.cos (ang 1031798784#32 s.val n.val) := by
  unfold V
  simp only [hostOps0, hostOps0_1, hostOps0_2, List.flatten_cons, List.flatten_nil, List.append_nil, List.cons_append, List.nil_append]
  after_results
  pointwise
  try rfl
/-- The sines of the narrower heads, positions last. -/
theorem V76 (n : Fin 16) (s : Fin 2048) : (V m c main_v76 : FVec Ideal S16x2048 .f32) (ix2 n s) = Ideal.sin (ang 1031798784#32 s.val n.val) := by
  unfold V
  simp only [hostOps0, hostOps0_1, hostOps0_2, List.flatten_cons, List.flatten_nil, List.append_nil, List.cons_append, List.nil_append]
  after_results
  pointwise
  try rfl
/-- The norm's scale. -/
theorem V18 (k : Fin 1024) : (V m c main_v18 : FVec Ideal S1x1024 .f32) (ix2 0 k) = (m (c.tc.loc main_arg1) : FVec Ideal S1024 .f32) (ix1 k) := by
  unfold V
  simp only [hostOps0, hostOps0_1, hostOps0_2, List.flatten_cons, List.flatten_nil, List.append_nil, List.cons_append, List.nil_append]
  after_results
  pointwise
  try rfl
/-- The latent norm's scale. -/
theorem V25 (k : Fin 128) : (V m c main_v25 : FVec Ideal S1x128 .f32) (ix2 0 k) = (m (c.tc.loc main_arg5) : FVec Ideal S128 .f32) (ix1 k) := by
  unfold V
  simp only [hostOps0, hostOps0_1, hostOps0_2, List.flatten_cons, List.flatten_nil, List.append_nil, List.cons_append, List.nil_append]
  after_results
  pointwise
  try rfl
/-- The weights of the rows, at the latent columns. -/
theorem V19 (k : Fin 1024) (n : Fin 128) : (V m c main_v19 : FVec Ideal S1024x1152 .bf16) (ix2 k ⟨896 + n.val, by omega⟩) = wgt (m (c.tc.loc main_arg2)) k (1664 + n.val) := by
  unfold V
  simp only [hostOps0, hostOps0_1, hostOps0_2, List.flatten_cons, List.flatten_nil, List.append_nil, List.cons_append, List.nil_append]
  after_results
  pointwise
  refine (dif_neg (show ¬ 896 + n.val < 384 by omega)).trans ?_
  refine (dif_neg (show ¬ 896 + n.val - 384 < 256 by omega)).trans ?_
  refine (dif_pos (show 896 + n.val - 384 - 256 < 384 by omega)).trans ?_
  after_results_simp
  pointwise
  unfold wgt
  rw [dif_pos (by omega)]
  congr 2
  exact Fin.ext (show 1408 + (896 + n.val - 384 - 256) = 1664 + n.val by omega)

/-- The column of the weights that a row of the transposed weights holds. -/
def col (l : ℕ) : ℕ := if l < 256 then 384 + l else if l < 768 then 640 + l else 1024 + l

/-- The transposed weights: three stretches of the columns. -/
theorem V20 (k : Fin 1024) (l : Fin 800) : (V m c main_v20 : FVec Ideal S800x1024 .bf16) (ix2 l k) = wgt (m (c.tc.loc main_arg2)) k (col l.val) := by
  unfold V
  simp only [hostOps0, hostOps0_1, hostOps0_2, List.flatten_cons, List.flatten_nil, List.append_nil, List.cons_append, List.nil_append]
  after_results
  pointwise
  after_results_simp
  pointwise
  unfold col wgt
  by_cases h1 : l.val < 256
  · simp only [h1, if_true, dif_pos, dif_pos (show 384 + l.val < 1824 by omega)]

  · by_cases h2 : l.val < 768
    · simp only [h1, h2, if_true, if_false, dif_neg, not_false_eq_true, dif_pos (show l.val - 256 < 512 by omega), dif_pos (show 640 + l.val < 1824 by omega),
        show 896 + (l.val - 256) = 640 + l.val by omega]

    · simp only [h1, h2, if_false, dif_neg, not_false_eq_true, dif_neg (show ¬ l.val - 256 < 512 by omega), dif_pos (show 1024 + l.val < 1824 by omega),
        show 1792 + (l.val - 256 - 512) = 1024 + l.val by omega]

end Cert.Kernel3Ideal.Proj
end
-- ==== Proof.ProjPoint.lean ====
module

public import proofs.«01_k».proof.Proof.ProjW
@[expose] public section

set_option maxRecDepth 16384

noncomputable section

open Idealize.ShloMosaic Idealize.ShloMosaic.TcCoe Idealize.SL.Sem
open scoped BigOperators
namespace Cert.Kernel3Ideal.Proj
open Cert.Kernel3Ideal Cert.Kernel3Ideal.Gen
open Cert.Proj
variable (m : (ℓ : Loc nD τ sig) → Buf (Elt Ideal) ℓ) (c : Dev nD)

/-- The blocks of the grid points: a point is a sequence and a quarter of its positions. -/
theorem idx_val : ∀ t : Fin cfg0.N, win0_0.index t = ![t.val / 4, t.val % 4, 0]
    ∧ win0_1.index t = ![0, 0]
    ∧ win0_2.index t = ![0, 0]
    ∧ win0_3.index t = ![0, 0]
    ∧ win0_8.index t = ![0, 0]
    ∧ win0_13.index t = ![0, t.val % 4]
    ∧ win0_14.index t = ![0, t.val % 4]
    ∧ win0_15.index t = ![0, t.val % 4]
    ∧ win0_16.index t = ![0, t.val % 4]
    ∧ win0_21.index t = ![0, t.val / 4, t.val % 4, 0]
    ∧ win0_22.index t = ![0, t.val / 4, 0, t.val % 4]
    ∧ win0_23.index t = ![0, t.val / 4, 0, t.val % 4]
    ∧ win0_24.index t = ![0, t.val / 4, 0, t.val % 4]
    ∧ win0_25.index t = ![0, t.val / 4, 0, t.val % 4]
    ∧ win0_26.index t = ![0, t.val / 4, 0, t.val % 4] :=
  (by decide +kernel : ∀ t : Fin grid0.N, _)

/-- The sequence of a grid point. -/
def bt (t : Fin cfg0.N) : Fin 16 := ⟨t.val / 4, by have := lt_of_lt_of_eq t.isLt N_0; omega⟩

/-- The position of a row of a grid point. -/
def st (t : Fin cfg0.N) (r : Fin 512) : Fin 2048 := ⟨t.val % 4 * 512 + r.val, by omega⟩

/-- A block's entries in the array it is cut from. -/
theorem block_x (t : Fin cfg0.N) (r : Fin 512) (k : Fin 1024) : (iblk m c 0 t : FVec Ideal S1x512x1024 .f32) (ix3 0 r k) = (m (c.tc.loc main_arg0) : FVec Ideal S16x2048x1024 .f32) (ix3 (bt t) (st t r) k) := by
  unfold bt st; blk_ext [iblk, idx_val t]

/-- A block's entries, as the host's preparation of the array made them. -/
theorem block_g (t : Fin cfg0.N) (k : Fin 1024) : (iblk m c 1 t : FVec Ideal S1x1024 .f32) (ix2 0 k) = (m (c.tc.loc main_arg1) : FVec Ideal S1024 .f32) (ix1 k) :=
  Eq.trans (show _ = (V m c main_v18 : FVec Ideal S1x1024 .f32) (ix2 0 k) by blk_ext [iblk, idx_val t]) (V18 m c k)

/-- A block's entries, as the host's preparation of the array made them. -/
theorem block_w (t : Fin cfg0.N) (k : Fin 1024) (n : Fin 128) : (iblk m c 2 t : FVec Ideal S1024x1152 .bf16) (ix2 k ⟨896 + n.val, by omega⟩) = wgt (m (c.tc.loc main_arg2)) k (1664 + n.val) :=
  Eq.trans (show _ = (V m c main_v19 : FVec Ideal S1024x1152 .bf16) (ix2 k ⟨896 + n.val, by omega⟩) by blk_ext [iblk, idx_val t]) (V19 m c k n)

/-- A block's entries, as the host's preparation of the array made them. -/
theorem block_wt (t : Fin cfg0.N) (l : Fin 800) (k : Fin 1024) : (iblk m c 3 t : FVec Ideal S800x1024 .bf16) (ix2 l k) = wgt (m (c.tc.loc main_arg2)) k (col l.val) :=
  Eq.trans (show _ = (V m c main_v20 : FVec Ideal S800x1024 .bf16) (ix2 l k) by blk_ext [iblk, idx_val t]) (V20 m c k l)

/-- A block's entries, as the host's preparation of the array made them. -/
theorem block_gk (t : Fin cfg0.N) (k : Fin 128) : (iblk m c 8 t : FVec Ideal S1x128 .f32) (ix2 0 k) = (m (c.tc.loc main_arg5) : FVec Ideal S128 .f32) (ix1 k) :=
  Eq.trans (show _ = (V m c main_v25 : FVec Ideal S1x128 .f32) (ix2 0 k) by blk_ext [iblk, idx_val t]) (V25 m c k)

/-- A block's entries, as the host's preparation of the array made them. -/
theorem block_cos_wide (t : Fin cfg0.N) (n : Fin 32) (r : Fin 512) : (iblk m c 13 t : FVec Ideal S32x512 .f32) (ix2 n r) = Ideal.cos (ang 1023410176#32 (st t r).val n.val) :=
  Eq.trans (show _ = (V m c main_v50 : FVec Ideal S32x2048 .f32) (ix2 n (st t r)) by unfold st; blk_ext [iblk, idx_val t]) (V50 m c n (st t r))

/-- A block's entries, as the host's preparation of the array made them. -/
theorem block_sin_wide (t : Fin cfg0.N) (n : Fin 32) (r : Fin 512) : (iblk m c 14 t : FVec Ideal S32x512 .f32) (ix2 n r) = Ideal.sin (ang 1023410176#32 (st t r).val n.val) :=
  Eq.trans (show _ = (V m c main_v51 : FVec Ideal S32x2048 .f32) (ix2 n (st t r)) by unfold st; blk_ext [iblk, idx_val t]) (V51 m c n (st t r))

/-- A block's entries, as the host's preparation of the array made them. -/
theorem block_cos_narrow (t : Fin cfg0.N) (n : Fin 16) (r : Fin 512) : (iblk m c 15 t : FVec Ideal S16x512 .f32) (ix2 n r) = Ideal.cos (ang 1031798784#32 (st t r).val n.val) :=
  Eq.trans (show _ = (V m c main_v75 : FVec Ideal S16x2048 .f32) (ix2 n (st t r)) by unfold st; blk_ext [iblk, idx_val t]) (V75 m c n (st t r))

/-- A block's entries, as the host's preparation of the array made them. -/
theorem block_sin_narrow (t : Fin cfg0.N) (n : Fin 16) (r : Fin 512) : (iblk m c 16 t : FVec Ideal S16x512 .f32) (ix2 n r) = Ideal.sin (ang 1031798784#32 (st t r).val n.val) :=
  Eq.trans (show _ = (V m c main_v76 : FVec Ideal S16x2048 .f32) (ix2 n (st t r)) by unfold st; blk_ext [iblk, idx_val t]) (V76 m c n (st t r))

/-- The transposed projection of a point: a row of it is a column of the projection. -/
theorem zt_at (t : Fin cfg0.N) (l : Fin 800) (r : Fin 512) :
    (k0_pay102 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S800x512 .f32) (ix2 l r) = Z (m (c.tc.loc main_arg0)) (m (c.tc.loc main_arg1)) (m (c.tc.loc main_arg2)) (bt t) (st t r) (col l.val) := by
  unfold k0_pay102
  pointwise [k0_pay8, k0_pay6]
  unfold Z hid
  refine Finset.sum_congr rfl fun k _ => ?_
  rw [mul_comm]
  simp only [block_x, block_g, block_wt]

/-- The projection of a point at the latent columns. -/
theorem zr_at (t : Fin cfg0.N) (r : Fin 512) (n : Fin 128) :
    (k0_pay101 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S512x1152 .f32) (ix2 r ⟨896 + n.val, by omega⟩) = Z (m (c.tc.loc main_arg0)) (m (c.tc.loc main_arg1)) (m (c.tc.loc main_arg2)) (bt t) (st t r) (1664 + n.val) := by
  unfold k0_pay101
  pointwise [k0_pay7, k0_pay6]
  unfold Z hid
  refine Finset.sum_congr rfl fun k _ => ?_
  simp only [block_x, block_g, block_w]

/-- A table of a point, at its positions. -/
theorem cos_wide_at (t : Fin cfg0.N) (n : Fin 32) (r : Fin 512) :
    (k0_pay112 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S32x512 .f32) (ix2 n r) = Ideal.cos (ang 1023410176#32 (st t r).val n.val) := by
  unfold k0_pay112
  pointwise [k0_pay51]
  exact block_cos_wide m c t n r

/-- A table of a point, at its positions. -/
theorem sin_wide_at (t : Fin cfg0.N) (n : Fin 32) (r : Fin 512) :
    (k0_pay113 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S32x512 .f32) (ix2 n r) = Ideal.sin (ang 1023410176#32 (st t r).val n.val) := by
  unfold k0_pay113
  pointwise [k0_pay52]
  exact block_sin_wide m c t n r

/-- A table of a point, at its positions. -/
theorem cos_narrow_at (t : Fin cfg0.N) (n : Fin 16) (r : Fin 512) :
    (k0_pay114 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S16x512 .f32) (ix2 n r) = Ideal.cos (ang 1031798784#32 (st t r).val n.val) := by
  unfold k0_pay114
  pointwise [k0_pay53]
  exact block_cos_narrow m c t n r

/-- A table of a point, at its positions. -/
theorem sin_narrow_at (t : Fin cfg0.N) (n : Fin 16) (r : Fin 512) :
    (k0_pay115 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S16x512 .f32) (ix2 n r) = Ideal.sin (ang 1031798784#32 (st t r).val n.val) := by
  unfold k0_pay115
  pointwise [k0_pay54]
  exact block_sin_narrow m c t n r

/-- The latent rows, of a point. -/
theorem point21 (t : Fin cfg0.N) (r : Fin 512) (n : Fin 128) :
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S1x1x512x128 .f32) (ix4 0 0 r n)
      = lat (m (c.tc.loc main_arg0)) (m (c.tc.loc main_arg1)) (m (c.tc.loc main_arg2)) (m (c.tc.loc main_arg5)) (bt t) (st t r) n := by
  frame_out
  pointwise [k0_pay47, k0_pay46]
  unfold lat
  simp only [zr_at, block_gk]

/-- The array of latent rows after the run. -/
theorem final21 : (dats m 0 c).arrAt 21 cfg0.N = CKV (m (c.tc.loc main_arg0)) (m (c.tc.loc main_arg1)) (m (c.tc.loc main_arg2)) (m (c.tc.loc main_arg5)) := by
  refine (dats m 0 c).arrAt_eq_of_covers 21 _ (by decide +kernel) fun t hf y => ?_
  blk_simp
  rw [after0_21]
  refine Eq.trans (congrArg _ (show y = ix4 0 0 (y 2) (y 3) from ?_)) ((point21 m c t (y 2) (y 3)).trans ?_)
  · blk_ext
  · show CKV (m (c.tc.loc main_arg0)) (m (c.tc.loc main_arg1)) (m (c.tc.loc main_arg2)) (m (c.tc.loc main_arg5)) (ix4 0 (bt t) (st t (y 2)) (y 3)) = _
    unfold bt st
    blk_ext [idx_val t]

/-- The values of the block attention, of a point. -/
theorem point23 (t : Fin cfg0.N) (l : Fin 128) (r : Fin 512) :
    (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S1x1x128x512 .f32) (ix4 0 0 l r) = Z (m (c.tc.loc main_arg0)) (m (c.tc.loc main_arg1)) (m (c.tc.loc main_arg2)) (bt t) (st t r) (512 + l.val) := by
  frame_out
  pointwise [k0_pay63]
  simp only [zt_at]
  congr 1
  unfold col
  split_ifs <;> omega

/-- The array after the run. -/
theorem final23 : (dats m 0 c).arrAt 23 cfg0.N = MV (m (c.tc.loc main_arg0)) (m (c.tc.loc main_arg1)) (m (c.tc.loc main_arg2)) := by
  refine (dats m 0 c).arrAt_eq_of_covers 23 _ (by decide +kernel) fun t hf y => ?_
  blk_simp
  rw [after0_23]
  refine Eq.trans (congrArg _ (show y = ix4 0 0 (y 2) (y 3) from ?_)) ((point23 m c t (y 2) (y 3)).trans ?_)
  · blk_ext
  · show MV (m (c.tc.loc main_arg0)) (m (c.tc.loc main_arg1)) (m (c.tc.loc main_arg2)) (ix4 0 (bt t) (y 2) (st t (y 3))) = _
    unfold bt st
    blk_ext [idx_val t]

/-- The values of the differential attention, of a point. -/
theorem point25 (t : Fin cfg0.N) (l : Fin 256) (r : Fin 512) :
    (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S1x1x256x512 .f32) (ix4 0 0 l r) = Z (m (c.tc.loc main_arg0)) (m (c.tc.loc main_arg1)) (m (c.tc.loc main_arg2)) (bt t) (st t r) (1152 + l.val) := by
  frame_out
  pointwise [k0_pay1, k0_pay100]
  simp only [zt_at]
  congr 1
  unfold col
  split_ifs <;> omega

/-- The array after the run. -/
theorem final25 : (dats m 0 c).arrAt 25 cfg0.N = DV (m (c.tc.loc main_arg0)) (m (c.tc.loc main_arg1)) (m (c.tc.loc main_arg2)) := by
  refine (dats m 0 c).arrAt_eq_of_covers 25 _ (by decide +kernel) fun t hf y => ?_
  blk_simp
  rw [after0_25]
  refine Eq.trans (congrArg _ (show y = ix4 0 0 (y 2) (y 3) from ?_)) ((point25 m c t (y 2) (y 3)).trans ?_)
  · blk_ext
  · show DV (m (c.tc.loc main_arg0)) (m (c.tc.loc main_arg1)) (m (c.tc.loc main_arg2)) (ix4 0 (bt t) (y 2) (st t (y 3))) = _
    unfold bt st
    blk_ext [idx_val t]

/-- The rotary key, of a point. -/
theorem point26 (t : Fin cfg0.N) (l : Fin 32) (r : Fin 512) :
    (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S1x1x32x512 .f32) (ix4 0 0 l r) = rot (Z (m (c.tc.loc main_arg0)) (m (c.tc.loc main_arg1)) (m (c.tc.loc main_arg2)) (bt t) (st t r)) (ang 1031798784#32 (st t r).val) 16 1792 l.val := by
  unfold out0_26
  canon_tiles x h
  all_goals
    idx_vars x
    pointwise [k0_pay2, k0_pay3, k0_pay4, k0_pay5]
    simp only [zt_at, cos_narrow_at, sin_narrow_at]
    obtain rfl : r = x3 := Fin.ext h3
    first
    | exact rot_lo _ _ 16 1792 (l.val / 32 * 32) _ l.val _ _ (by omega) (by omega) (by omega) (by unfold col; split_ifs <;> omega) (by unfold col; split_ifs <;> omega)
    | exact rot_hi _ _ 16 1792 (l.val / 32 * 32) _ l.val _ _ (by omega) (by omega) (by omega) (by unfold col; split_ifs <;> omega) (by unfold col; split_ifs <;> omega)

/-- The array after the run. -/
theorem final26 : (dats m 0 c).arrAt 26 cfg0.N = KPE (m (c.tc.loc main_arg0)) (m (c.tc.loc main_arg1)) (m (c.tc.loc main_arg2)) := by
  refine (dats m 0 c).arrAt_eq_of_covers 26 _ (by decide +kernel) fun t hf y => ?_
  blk_simp
  rw [after0_26]
  refine Eq.trans (congrArg _ (show y = ix4 0 0 (y 2) (y 3) from ?_)) ((point26 m c t (y 2) (y 3)).trans ?_)
  · blk_ext
  · show KPE (m (c.tc.loc main_arg0)) (m (c.tc.loc main_arg1)) (m (c.tc.loc main_arg2)) (ix4 0 (bt t) (y 2) (st t (y 3))) = _
    unfold bt st
    blk_ext [idx_val t]

/-- The keys of the block attention, of a point. -/
theorem point22 (t : Fin cfg0.N) (l : Fin 128) (r : Fin 512) :
    (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S1x1x128x512 .f32) (ix4 0 0 l r) = rot (Z (m (c.tc.loc main_arg0)) (m (c.tc.loc main_arg1)) (m (c.tc.loc main_arg2)) (bt t) (st t r)) (ang 1023410176#32 (st t r).val) 32 384 l.val := by
  unfold out0_22
  canon_tiles x h
  all_goals
    idx_vars x
    pointwise [k0_pay51, k0_pay52, k0_pay55, k0_pay56, k0_pay57, k0_pay58, k0_pay59, k0_pay60, k0_pay61, k0_pay62]
    simp only [zt_at, cos_wide_at, sin_wide_at, block_cos_wide, block_sin_wide]
    obtain rfl : r = x3 := Fin.ext h3
    first
    | exact rot_lo _ _ 32 384 (l.val / 64 * 64) _ l.val _ _ (by omega) (by omega) (by omega) (by unfold col; split_ifs <;> omega) (by unfold col; split_ifs <;> omega)
    | exact rot_hi _ _ 32 384 (l.val / 64 * 64) _ l.val _ _ (by omega) (by omega) (by omega) (by unfold col; split_ifs <;> omega) (by unfold col; split_ifs <;> omega)

/-- The array after the run. -/
theorem final22 : (dats m 0 c).arrAt 22 cfg0.N = MK (m (c.tc.loc main_arg0)) (m (c.tc.loc main_arg1)) (m (c.tc.loc main_arg2)) := by
  refine (dats m 0 c).arrAt_eq_of_covers 22 _ (by decide +kernel) fun t hf y => ?_
  blk_simp
  rw [after0_22]
  refine Eq.trans (congrArg _ (show y = ix4 0 0 (y 2) (y 3) from ?_)) ((point22 m c t (y 2) (y 3)).trans ?_)
  · blk_ext
  · show MK (m (c.tc.loc main_arg0)) (m (c.tc.loc main_arg1)) (m (c.tc.loc main_arg2)) (ix4 0 (bt t) (y 2) (st t (y 3))) = _
    unfold bt st
    blk_ext [idx_val t]

/-- The keys of the differential attention, of a point. -/
theorem point24 (t : Fin cfg0.N) (l : Fin 256) (r : Fin 512) :
    (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) : FVec Ideal S1x1x256x512 .f32) (ix4 0 0 l r) = rot (Z (m (c.tc.loc main_arg0)) (m (c.tc.loc main_arg1)) (m (c.tc.loc main_arg2)) (bt t) (st t r)) (ang 1031798784#32 (st t r).val) 16 896 l.val := by
  unfold out0_24
  canon_tiles x h
  all_goals
    idx_vars x
    pointwise [k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99]
    simp only [zt_at, cos_narrow_at, sin_narrow_at]
    obtain rfl : r = x3 := Fin.ext h3
    first
    | exact rot_lo _ _ 16 896 (l.val / 32 * 32) _ l.val _ _ (by omega) (by omega) (by omega) (by unfold col; split_ifs <;> omega) (by unfold col; split_ifs <;> omega)
    | exact rot_hi _ _ 16 896 (l.val / 32 * 32) _ l.val _ _ (by omega) (by omega) (by omega) (by unfold col; split_ifs <;> omega) (by unfold col; split_ifs <;> omega)

/-- The array after the run. -/
theorem final24 : (dats m 0 c).arrAt 24 cfg0.N = DK (m (c.tc.loc main_arg0)) (m (c.tc.loc main_arg1)) (m (c.tc.loc main_arg2)) := by
  refine (dats m 0 c).arrAt_eq_of_covers 24 _ (by decide +kernel) fun t hf y => ?_
  blk_simp
  rw [after0_24]
  refine Eq.trans (congrArg _ (show y = ix4 0 0 (y 2) (y 3) from ?_)) ((point24 m c t (y 2) (y 3)).trans ?_)
  · blk_ext
  · show DK (m (c.tc.loc main_arg0)) (m (c.tc.loc main_arg1)) (m (c.tc.loc main_arg2)) (ix4 0 (bt t) (y 2) (st t (y 3))) = _
    unfold bt st
    blk_ext [idx_val t]

end Cert.Kernel3Ideal.Proj
end
-- ==== Proof.ProjRef.lean ====
module

public import proofs.«01_k».proof.Proof.Gen.Reference3Ideal.Run
public import proofs.«01_k».proof.Proof.ProjSpec
@[expose] public section

set_option maxRecDepth 16384

noncomputable section

open Idealize.ShloMosaic Idealize.ShloMosaic.TcCoe Idealize.SL.Sem
open scoped BigOperators
namespace Cert.Reference3Ideal.Proj
open Cert.Reference3Ideal Cert.Reference3Ideal.Gen Cert.Reference3Ideal.Value
open Cert.Proj
variable (m : (ℓ : Loc nD τ sig) → Buf (Elt Ideal) ℓ) (c : Dev nD)

/-- A sum over a weight column is the projected activation there. -/
theorem z_at (x : FVec Ideal S16x2048x1024 .f32) (g : FVec Ideal S1024 .f32) (w : FVec Ideal S1024x1824 .f32)
    (b : Fin 16) (s : Fin 2048) (n : ℕ) (h : n < 1824) :
    ∑ k : Fin 1024, x (ix3 b s k) * Ideal.rsqrt (Ideal.div (∑ j : Fin 1024, x (ix3 b s j) * x (ix3 b s j)) (Ideal.ofBits .f32 1149239296#32)
      + Ideal.ofBits .f32 897988541#32) * g (ix1 k) * w (ix2 k ⟨n, h⟩) = Z x g w b s n := by
  unfold Z hid wgt
  simp only [dif_pos h]

/-- The reference's block attention keys. -/
theorem keys_block : (res_main_v62 m c : FVec Ideal S1x16x128x2048 .f32)
    = MK (m (c.tc.loc main_arg0)) (m (c.tc.loc main_arg1)) (m (c.tc.loc main_arg2)) := by
  funext i
  idx_vars i
  pointwise [res_main_v62]
  simp only [z_at (m (c.tc.loc main_arg0)) (m (c.tc.loc main_arg1)) (m (c.tc.loc main_arg2))]
  split
  · exact rot_lo (Z _ _ _ i1 i3) (ang 1023410176#32 i3.val) 32 384 (i2.val / 64 * 64) _ i2.val _ _ (by omega) (by omega) (show i2.val = _ by omega) (by omega) (by omega)
  · exact rot_hi (Z _ _ _ i1 i3) (ang 1023410176#32 i3.val) 32 384 (i2.val / 64 * 64) _ i2.val _ _ (by omega) (by omega) (show i2.val = _ by omega) (by omega) (by omega)

/-- The reference's differential attention keys. -/
theorem keys_diff : (res_main_v100 m c : FVec Ideal S1x16x256x2048 .f32)
    = DK (m (c.tc.loc main_arg0)) (m (c.tc.loc main_arg1)) (m (c.tc.loc main_arg2)) := by
  funext i
  idx_vars i
  pointwise [res_main_v100]
  simp only [z_at (m (c.tc.loc main_arg0)) (m (c.tc.loc main_arg1)) (m (c.tc.loc main_arg2))]
  split
  · exact rot_lo (Z _ _ _ i1 i3) (ang 1031798784#32 i3.val) 16 896 (i2.val / 32 * 32) _ i2.val _ _ (by omega) (by omega) (show i2.val = _ by omega) (by omega) (by omega)
  · exact rot_hi (Z _ _ _ i1 i3) (ang 1031798784#32 i3.val) 16 896 (i2.val / 32 * 32) _ i2.val _ _ (by omega) (by omega) (show i2.val = _ by omega) (by omega) (by omega)

/-- The reference's rotary key of the latent attention. -/
theorem keys_rotary : (res_main_v148 m c : FVec Ideal S1x16x32x2048 .f32)
    = KPE (m (c.tc.loc main_arg0)) (m (c.tc.loc main_arg1)) (m (c.tc.loc main_arg2)) := by
  funext i
  idx_vars i
  pointwise [res_main_v148]
  simp only [z_at (m (c.tc.loc main_arg0)) (m (c.tc.loc main_arg1)) (m (c.tc.loc main_arg2))]
  split
  · exact rot_lo (Z _ _ _ i1 i3) (ang 1031798784#32 i3.val) 16 1792 0 _ i2.val _ _ (by omega) (by omega) (show i2.val = _ by omega) (by omega) (by omega)
  · exact rot_hi (Z _ _ _ i1 i3) (ang 1031798784#32 i3.val) 16 1792 0 _ i2.val _ _ (by omega) (by omega) (show i2.val = _ by omega) (by omega) (by omega)

end Cert.Reference3Ideal.Proj
end
-- ==== Proof.Proj.lean ====
module

public import proofs.«01_k».proof.Defs
public import proofs.«01_k».proof.Proof.ProjPoint
public import proofs.«01_k».proof.Proof.ProjRef
@[expose] public section

set_option maxRecDepth 16384

noncomputable section

open Idealize.ShloMosaic Idealize.ShloMosaic.TcCoe Idealize.SL.Sem
open scoped BigOperators
namespace Cert.Kernel3Ideal.Proj
open Cert.Kernel3Ideal Cert.Kernel3Ideal.Gen
open Cert.Proj
variable (m : (ℓ : Loc nD τ sig) → Buf (Elt Ideal) ℓ) (ρ : Dev nD → PrngReg)

set_option maxHeartbeats 1000000 in
/-- The kernel's run: the six cache arrays are the stated functions of the arguments, the arguments stay. -/
theorem run_arrays : θ_run defs (onTc (τ := τ) (main (F := Ideal))) ⟨m, fun _ => 0, ρ⟩ fun r => ∀ c : Dev nD,
      r.2.mem ((c.tc : Thread nD τ).loc main_v77_4) = CKV (m (c.tc.loc Cert.Kernel3Ideal.main_arg0)) (m (c.tc.loc Cert.Kernel3Ideal.main_arg1)) (m (c.tc.loc Cert.Kernel3Ideal.main_arg2)) (m (c.tc.loc Cert.Kernel3Ideal.main_arg5))
      ∧ r.2.mem ((c.tc : Thread nD τ).loc main_v77_5) = MK (m (c.tc.loc Cert.Kernel3Ideal.main_arg0)) (m (c.tc.loc Cert.Kernel3Ideal.main_arg1)) (m (c.tc.loc Cert.Kernel3Ideal.main_arg2))
      ∧ r.2.mem ((c.tc : Thread nD τ).loc main_v77_6) = MV (m (c.tc.loc Cert.Kernel3Ideal.main_arg0)) (m (c.tc.loc Cert.Kernel3Ideal.main_arg1)) (m (c.tc.loc Cert.Kernel3Ideal.main_arg2))
      ∧ r.2.mem ((c.tc : Thread nD τ).loc main_v77_7) = DK (m (c.tc.loc Cert.Kernel3Ideal.main_arg0)) (m (c.tc.loc Cert.Kernel3Ideal.main_arg1)) (m (c.tc.loc Cert.Kernel3Ideal.main_arg2))
      ∧ r.2.mem ((c.tc : Thread nD τ).loc main_v77_8) = DV (m (c.tc.loc Cert.Kernel3Ideal.main_arg0)) (m (c.tc.loc Cert.Kernel3Ideal.main_arg1)) (m (c.tc.loc Cert.Kernel3Ideal.main_arg2))
      ∧ r.2.mem ((c.tc : Thread nD τ).loc main_v77_9) = KPE (m (c.tc.loc Cert.Kernel3Ideal.main_arg0)) (m (c.tc.loc Cert.Kernel3Ideal.main_arg1)) (m (c.tc.loc Cert.Kernel3Ideal.main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 21).trans (final21 m c),
      ((h c).1 22).trans (final22 m c),
      ((h c).1 23).trans (final23 m c),
      ((h c).1 24).trans (final24 m c),
      ((h c).1 25).trans (final25 m c),
      ((h c).1 26).trans (final26 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.Kernel3Ideal.Proj

namespace Cert.Proof
open Cert.Proj Cert.Reference3Ideal.Proj

/-- The cache rows of the kernel and of the reference are equal. -/
theorem projection_equal : Cert.algebraic_Kernel3Ideal_Reference3Ideal := by
  intro m g m' g' _ hag
  refine ⟨fun c => CKV (m (c.tc.loc Cert.Kernel3Ideal.main_arg0)) (m (c.tc.loc Cert.Kernel3Ideal.main_arg1)) (m (c.tc.loc Cert.Kernel3Ideal.main_arg2)) (m (c.tc.loc Cert.Kernel3Ideal.main_arg5)),
    fun c => MK (m (c.tc.loc Cert.Kernel3Ideal.main_arg0)) (m (c.tc.loc Cert.Kernel3Ideal.main_arg1)) (m (c.tc.loc Cert.Kernel3Ideal.main_arg2)),
    fun c => MV (m (c.tc.loc Cert.Kernel3Ideal.main_arg0)) (m (c.tc.loc Cert.Kernel3Ideal.main_arg1)) (m (c.tc.loc Cert.Kernel3Ideal.main_arg2)),
    fun c => DK (m (c.tc.loc Cert.Kernel3Ideal.main_arg0)) (m (c.tc.loc Cert.Kernel3Ideal.main_arg1)) (m (c.tc.loc Cert.Kernel3Ideal.main_arg2)),
    fun c => DV (m (c.tc.loc Cert.Kernel3Ideal.main_arg0)) (m (c.tc.loc Cert.Kernel3Ideal.main_arg1)) (m (c.tc.loc Cert.Kernel3Ideal.main_arg2)),
    fun c => KPE (m (c.tc.loc Cert.Kernel3Ideal.main_arg0)) (m (c.tc.loc Cert.Kernel3Ideal.main_arg1)) (m (c.tc.loc Cert.Kernel3Ideal.main_arg2)),
    Cert.Kernel3Ideal.Proj.run_arrays m g, ?_⟩
  refine (θ_run Cert.Reference3Ideal.defs _ _).mono (fun r h c => ?_) (Cert.Reference3Ideal.Value.run m' g')
  obtain ⟨h0, h1, h2, h3, h4, h5, h6⟩ := hag c
  beta_reduce
  rw [← h0, ← h1, ← h2, ← h5]
  obtain ⟨r0, r1, r2, r3, r4, r5, rest⟩ := h c
  refine ⟨r0.trans ?_, r1.trans (keys_block m' c), r2.trans ?_, r3.trans (keys_diff m' c), r4.trans ?_, r5.trans (keys_rotary m' c), rest⟩
  · funext i
    idx_vars i
    pointwise []
    simp only [z_at (m' (c.tc.loc Cert.Reference3Ideal.main_arg0)) (m' (c.tc.loc Cert.Reference3Ideal.main_arg1)) (m' (c.tc.loc Cert.Reference3Ideal.main_arg2))]
    rfl
  · funext i
    idx_vars i
    pointwise []
    exact z_at (m' (c.tc.loc Cert.Reference3Ideal.main_arg0)) (m' (c.tc.loc Cert.Reference3Ideal.main_arg1)) (m' (c.tc.loc Cert.Reference3Ideal.main_arg2)) _ _ _ _
  · funext i
    idx_vars i
    pointwise []
    exact z_at (m' (c.tc.loc Cert.Reference3Ideal.main_arg0)) (m' (c.tc.loc Cert.Reference3Ideal.main_arg1)) (m' (c.tc.loc Cert.Reference3Ideal.main_arg2)) _ _ _ _

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Algebra
public import proofs.«01_k».proof.Proof.Mix
public import proofs.«01_k».proof.Proof.ProjFrameK
public import proofs.«01_k».proof.Proof.Proj
public import Idealize.ShloMosaic.Adequacy
public import Idealize.ShloMosaic.Init

@[expose] public section

noncomputable section

namespace Cert.Proof

open Idealize.ShloMosaic Idealize.SL.Sem Cert.Kernel

/-- The attention reference runs, keeps its arguments and leaves no semaphore counter. -/
theorem attention_ref_runs : Cert.quiescent_ReferenceIdeal :=
  fun m ρ _ => (θ_run Cert.ReferenceIdeal.defs _ _).mono
    (fun r h => ⟨fun c => (h c).2, Idealize.ShloMosaic.sem_eq_zero_of_no_sems (by decide) r.2⟩) (Cert.ReferenceIdeal.Value.run m ρ)

/-- The same under the precondition. -/
theorem attention_ref_runs_pre : Cert.quiescent_ReferenceIdeal_pre_finite :=
  fun m ρ _ => (θ_run Cert.ReferenceIdeal.defs _ _).mono
    (fun r h => ⟨fun c => (h c).2, Idealize.ShloMosaic.sem_eq_zero_of_no_sems (by decide) r.2⟩) (Cert.ReferenceIdeal.Value.run m ρ)

/-- The mix reference runs, keeps its arguments and leaves no semaphore counter. -/
theorem mix_ref_runs : Cert.quiescent_Reference2Ideal :=
  fun m ρ _ => (θ_run Cert.Reference2Ideal.defs _ _).mono
    (fun r h => ⟨fun c => (h c).2, Idealize.ShloMosaic.sem_eq_zero_of_no_sems (by decide) r.2⟩) (Cert.Reference2Ideal.Value.run m ρ)

/-- The projection reference runs, keeps its arguments and leaves no semaphore counter. -/
theorem projection_ref_runs : Cert.quiescent_Reference3Ideal :=
  fun m ρ _ => (θ_run Cert.Reference3Ideal.defs _ _).mono
    (fun r h => ⟨fun c => ⟨(h c).2.2.2.2.2.2.1, (h c).2.2.2.2.2.2.2⟩, Idealize.ShloMosaic.sem_eq_zero_of_no_sems (by decide) r.2⟩) (Cert.Reference3Ideal.Value.run m ρ)

/-- The mask value of the attention kernel, named as minus infinity. -/
theorem attention_preserves : Cert.preserves_Kernel_KernelIdeal :=
  IdealRules.named_const.statement Cert.KernelIdeal.κ "mask" .f32 0xF149F2CA#32 ⊥ rfl

/-- Every claim made. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Pre_finite.Gen.facts, by
  refine ⟨fun m ρ _ => Cert.Kernel.Gen.frame m ρ, fun m ρ _ => Cert.KernelIdeal.Gen.frame m ρ,
    fun m ρ _ => Cert.KernelIdeal.Gen.frame m ρ, attention_ref_runs, attention_ref_runs_pre, fun m ρ _ => Cert.Kernel2.Gen.frame m ρ,
    fun m ρ _ => Cert.Kernel2Ideal.Gen.frame m ρ, mix_ref_runs, fun m ρ _ => Cert.Kernel3.Gen.frame m ρ,
    fun m ρ _ => Cert.Kernel3Ideal.Gen.frame m ρ, projection_ref_runs, attention_preserves, attention_equal, trivial, mix_equal,
    trivial, projection_equal⟩⟩

end Cert.Proof

end
